-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_nan [hPre_no_nan : Cert.Pre_no_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_nan [hPre_no_nan : Cert.Pre_no_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_nan [hKernelIdeal : Cert.KernelIdeal.Facts] [hPre_no_nan : Cert.Pre_no_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_nan m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_nan [hReferenceIdeal : Cert.ReferenceIdeal.Facts] [hPre_no_nan : Cert.Pre_no_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_nan [hKernelIdeal : Cert.KernelIdeal.Facts] [hReferenceIdeal : Cert.ReferenceIdeal.Facts] [hPre_no_nan : Cert.Pre_no_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_nan : Cert.Pre_no_nan.Facts),
    quiescent_Kernel (hKernel := hKernel)
    ∧ quiescent_KernelIdeal (hKernelIdeal := hKernelIdeal)
    ∧ quiescent_KernelIdeal_pre_no_nan (hKernelIdeal := hKernelIdeal) (hPre_no_nan := hPre_no_nan)
    ∧ quiescent_ReferenceIdeal (hReferenceIdeal := hReferenceIdeal)
    ∧ quiescent_ReferenceIdeal_pre_no_nan (hReferenceIdeal := hReferenceIdeal) (hPre_no_nan := hPre_no_nan)
    ∧ preserves_Kernel_KernelIdeal
    ∧ algebraic_KernelIdeal_ReferenceIdeal_pre_no_nan (hKernelIdeal := hKernelIdeal) (hReferenceIdeal := hReferenceIdeal) (hPre_no_nan := hPre_no_nan)
-- ==== Pre_no_nan.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : IVec S4096x4096 32) : IVec S4096x4096 1 :=
  let main_c : IVec S_ 32 := constantI S_ 32 2147483647#32
  let main_v0 : IVec S4096x4096 32 := broadcastInDim S4096x4096 ![] bcast_S_S4096x4096 main_c
  let main_v1 : IVec S4096x4096 32 := andi main_arg1 main_v0
  let main_c_0 : IVec S_ 32 := constantI S_ 32 2139095040#32
  let main_v2 : IVec S4096x4096 32 := broadcastInDim S4096x4096 ![] bcast_S_S4096x4096 main_c_0
  let main_v3 : IVec S4096x4096 1 := cmpi .sle main_v1 main_v2
  main_v3
-- ==== Kernel.lean ====
abbrev S4096x4096 : Shape := ⟨2, ![4096, 4096]⟩
abbrev S2097152 : Shape := ⟨1, ![2097152]⟩
abbrev S8x2048 : Shape := ⟨2, ![8, 2048]⟩
abbrev S65536 : Shape := ⟨1, ![65536]⟩
abbrev S_ : Shape := ⟨0, ![]⟩
abbrev S16 : Shape := ⟨1, ![16]⟩
abbrev S1x16 : Shape := ⟨2, ![1, 16]⟩
abbrev S32x512x128 : Shape := ⟨3, ![32, 512, 128]⟩
abbrev S8x128 : Shape := ⟨2, ![8, 128]⟩
abbrev S512x128 : Shape := ⟨2, ![512, 128]⟩
abbrev S128x128 : Shape := ⟨2, ![128, 128]⟩
abbrev S512x1 : Shape := ⟨2, ![512, 1]⟩
abbrev S512x512 : Shape := ⟨2, ![512, 512]⟩
abbrev S1x512x128 : Shape := ⟨3, ![1, 512, 128]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩
abbrev S128x4096 : Shape := ⟨2, ![128, 4096]⟩

abbrev nBuf : Table → Nat
  | .hbm => 10
  | .local .tc .vmem => 11
  | .local .tc .smem => 1
  | .local .scVector .vmem => 7
  | _ => 0

abbrev bufTy : (tb : Table) → Fin (nBuf tb) → BufTy
  | .hbm, ⟨0, _⟩ => ⟨S4096x4096, .f32⟩
  | .hbm, ⟨1, _⟩ => ⟨S4096x4096, .i32⟩
  | .hbm, ⟨2, _⟩ => ⟨S2097152, .i32⟩
  | .hbm, ⟨3, _⟩ => ⟨S32x512x128, .i32⟩
  | .hbm, ⟨4, _⟩ => ⟨S8x128, .i32⟩
  | .hbm, ⟨5, _⟩ => ⟨S2097152, .i32⟩
  | .hbm, ⟨6, _⟩ => ⟨S32x512x128, .i32⟩
  | .hbm, ⟨7, _⟩ => ⟨S8x128, .i32⟩
  | .hbm, ⟨8, _⟩ => ⟨S1x1, .i32⟩
  | .hbm, ⟨9, _⟩ => ⟨S4096x4096, .f32⟩
  | .local .tc .vmem, ⟨0, _⟩ => ⟨S32x512x128, .i32⟩
  | .local .tc .vmem, ⟨1, _⟩ => ⟨S8x128, .i32⟩
  | .local .tc .vmem, ⟨2, _⟩ => ⟨S32x512x128, .i32⟩
  | .local .tc .vmem, ⟨3, _⟩ => ⟨S8x128, .i32⟩
  | .local .tc .vmem, ⟨4, _⟩ => ⟨S8x128, .i32⟩
  | .local .tc .vmem, ⟨5, _⟩ => ⟨S128x4096, .f32⟩
  | .local .tc .vmem, ⟨6, _⟩ => ⟨S128x4096, .f32⟩
  | .local .tc .vmem, ⟨7, _⟩ => ⟨S128x4096, .i32⟩
  | .local .tc .vmem, ⟨8, _⟩ => ⟨S128x4096, .i32⟩
  | .local .tc .vmem, ⟨9, _⟩ => ⟨S128x4096, .f32⟩
  | .local .tc .vmem, ⟨10, _⟩ => ⟨S128x4096, .f32⟩
  | .local .tc .smem, ⟨0, _⟩ => ⟨S1x1, .i32⟩
  | .local .scVector .vmem, ⟨0, _⟩ => ⟨S8x2048, .i32⟩
  | .local .scVector .vmem, ⟨1, _⟩ => ⟨S8x2048, .i32⟩
  | .local .scVector .vmem, ⟨2, _⟩ => ⟨S65536, .i32⟩
  | .local .scVector .vmem, ⟨3, _⟩ => ⟨S8x2048, .i32⟩
  | .local .scVector .vmem, ⟨4, _⟩ => ⟨S8x2048, .i32⟩
  | .local .scVector .vmem, ⟨5, _⟩ => ⟨S65536, .i32⟩
  | .local .scVector .vmem, ⟨6, _⟩ => ⟨S128, .i32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_arg1_scv : Ref sig .scVector := ⟨.hbm, 1, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc3_stg0_0 : Ref sig .tc := ⟨.vmem, 2, rfl⟩
abbrev cc3_stg1_0 : Ref sig .tc := ⟨.vmem, 3, rfl⟩
abbrev cc3_stg2_0 : Ref sig .tc := ⟨.vmem, 4, rfl⟩
abbrev cc4_stg1_0 : Ref sig .tc := ⟨.vmem, 5, rfl⟩
abbrev cc4_stg1_1 : Ref sig .tc := ⟨.vmem, 6, rfl⟩
abbrev cc4_stg2_0 : Ref sig .tc := ⟨.vmem, 7, rfl⟩
abbrev cc4_stg2_1 : Ref sig .tc := ⟨.vmem, 8, rfl⟩
abbrev cc4_stg3_0 : Ref sig .tc := ⟨.vmem, 9, rfl⟩
abbrev cc4_stg3_1 : Ref sig .tc := ⟨.vmem, 10, rfl⟩
abbrev cc4_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc1_sem0_0 : DmaSem sig := 3
abbrev cc1_sem1_0 : DmaSem sig := 4
abbrev cc3_sem0_0 : DmaSem sig := 9
abbrev cc3_sem1_0 : DmaSem sig := 10
abbrev cc3_sem2_0 : DmaSem sig := 11
abbrev cc4_sem0_0 : DmaSem sig := 12
abbrev cc4_sem1_0 : DmaSem sig := 13
abbrev cc4_sem1_1 : DmaSem sig := 14
abbrev cc4_sem2_0 : DmaSem sig := 15
abbrev cc4_sem2_1 : DmaSem sig := 16
abbrev cc4_sem3_0 : DmaSem sig := 17
abbrev cc4_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4096_i32 : BitVec 32 := 4096#32
  let v8 : BitVec 32 := Scalar.addi c0_i32_0 c4096_i32
  let c1_i32_1 : BitVec 32 := 1#32
  ⟨c0_i32_0, v8, c1_i32_1⟩
def k0_off1 (k0_t1 : Fin k0_t1_loop.trips) : Fin 1 → Nat :=
  let c0_i32_275 : BitVec 32 := 0#32
  let c0_i32_0 : BitVec 32 := 0#32
  let c1_i32_1 : BitVec 32 := 1#32
  let arg9 : BitVec 32 := Scf.iv c0_i32_0 c1_i32_1 k0_t1
  let c1_i32_274 : BitVec 32 := 1#32
  let v202 : BitVec 32 := Scalar.muli arg9 c1_i32_274
  let v203 : BitVec 32 := Scalar.addi c0_i32_275 v202
  let c16_i32_276 : BitVec 32 := 16#32
  let v204 : BitVec 32 := Scalar.muli v203 c16_i32_276
  let v205 : Index := Scalar.indexCast v204
  ![v205.toNat]
def k0_off2 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v9 : BitVec 32 := Scalar.addi v2 c0_i32_3
  let c0_i32_4 : BitVec 32 := 0#32
  ![v9.toNat, 0]
def k0_off3 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v12 : BitVec 32 := Scalar.addi v2 c0_i32_6
  let c2048_i32 : BitVec 32 := 2048#32
  ![v12.toNat, 2048]
@[reducible] def k0_t2_loop : Scf.Loop 32 :=
  let c0_i32_10 : BitVec 32 := 0#32
  let c1024_i32 : BitVec 32 := 1024#32
  let v17 : BitVec 32 := Scalar.addi c0_i32_10 c1024_i32
  let c1_i32_11 : BitVec 32 := 1#32
  ⟨c0_i32_10, v17, c1_i32_11⟩
def k0_off4 (k0_t2 : Fin k0_t2_loop.trips) : Fin 2 → Nat :=
  let c0_i32_275 : BitVec 32 := 0#32
  let c0_i32_10 : BitVec 32 := 0#32
  let c1_i32_11 : BitVec 32 := 1#32
  let arg9 : BitVec 32 := Scf.iv c0_i32_10 c1_i32_11 k0_t2
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk1 (v216 : IVec S16 32) : Prop :=
  (∀ a x, ((![v216] : Fin 1 → IVec S16 32) a x).toNat < S65536.size a)
theorem k0_idx1_inb : ∀ (v216 : IVec S16 32) (k0_hw1 : k0_chk1 v216), ∀ a x, ((![v216] : Fin 1 → IVec S16 32) a x).toNat < S65536.size a := fun v216 k0_hw1 => k0_hw1
@[reducible] def k0_t3_loop : Scf.Loop 32 :=
  let c0_i32_17 : BitVec 32 := 0#32
  let c1024_i32_18 : BitVec 32 := 1024#32
  let v23 : BitVec 32 := Scalar.addi c0_i32_17 c1024_i32_18
  let c1_i32_19 : BitVec 32 := 1#32
  ⟨c0_i32_17, v23, c1_i32_19⟩
def k0_off5 (k0_t3 : Fin k0_t3_loop.trips) : Fin 2 → Nat :=
  let c0_i32_275 : BitVec 32 := 0#32
  let c0_i32_17 : BitVec 32 := 0#32
  let c1_i32_19 : BitVec 32 := 1#32
  let arg9 : BitVec 32 := Scf.iv c0_i32_17 c1_i32_19 k0_t3
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk2 (v216 : IVec S16 32) : Prop :=
  (∀ a x, ((![v216] : Fin 1 → IVec S16 32) a x).toNat < S65536.size a)
theorem k0_idx2_inb : ∀ (v216 : IVec S16 32) (k0_hw2 : k0_chk2 v216), ∀ a x, ((![v216] : Fin 1 → IVec S16 32) a x).toNat < S65536.size a := fun v216 k0_hw2 => k0_hw2
@[reducible] def k0_t4_loop : Scf.Loop 32 :=
  let c0_i32_26 : BitVec 32 := 0#32
  let c1024_i32_27 : BitVec 32 := 1024#32
  let v29 : BitVec 32 := Scalar.addi c0_i32_26 c1024_i32_27
  let c1_i32_28 : BitVec 32 := 1#32
  ⟨c0_i32_26, v29, c1_i32_28⟩
def k0_off6 (k0_t4 : Fin k0_t4_loop.trips) : Fin 2 → Nat :=
  let c0_i32_275 : BitVec 32 := 0#32
  let c0_i32_26 : BitVec 32 := 0#32
  let c1_i32_28 : BitVec 32 := 1#32
  let arg9 : BitVec 32 := Scf.iv c0_i32_26 c1_i32_28 k0_t4
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk3 (v216 : IVec S16 32) : Prop :=
  (∀ a x, ((![v216] : Fin 1 → IVec S16 32) a x).toNat < S65536.size a)
theorem k0_idx3_inb : ∀ (v216 : IVec S16 32) (k0_hw3 : k0_chk3 v216), ∀ a x, ((![v216] : Fin 1 → IVec S16 32) a x).toNat < S65536.size a := fun v216 k0_hw3 => k0_hw3
@[reducible] def k0_t5_loop : Scf.Loop 32 :=
  let c0_i32_34 : BitVec 32 := 0#32
  let c1024_i32_35 : BitVec 32 := 1024#32
  let v35 : BitVec 32 := Scalar.addi c0_i32_34 c1024_i32_35
  let c1_i32_36 : BitVec 32 := 1#32
  ⟨c0_i32_34, v35, c1_i32_36⟩
def k0_off7 (k0_t5 : Fin k0_t5_loop.trips) : Fin 2 → Nat :=
  let c0_i32_275 : BitVec 32 := 0#32
  let c0_i32_34 : BitVec 32 := 0#32
  let c1_i32_36 : BitVec 32 := 1#32
  let arg9 : BitVec 32 := Scf.iv c0_i32_34 c1_i32_36 k0_t5
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk4 (v216 : IVec S16 32) : Prop :=
  (∀ a x, ((![v216] : Fin 1 → IVec S16 32) a x).toNat < S65536.size a)
theorem k0_idx4_inb : ∀ (v216 : IVec S16 32) (k0_hw4 : k0_chk4 v216), ∀ a x, ((![v216] : Fin 1 → IVec S16 32) a x).toNat < S65536.size a := fun v216 k0_hw4 => k0_hw4
@[reducible] def k0_t6_loop : Scf.Loop 32 :=
  let c0_i32_43 : BitVec 32 := 0#32
  let c1024_i32_44 : BitVec 32 := 1024#32
  let v41 : BitVec 32 := Scalar.addi c0_i32_43 c1024_i32_44
  let c1_i32_45 : BitVec 32 := 1#32
  ⟨c0_i32_43, v41, c1_i32_45⟩
def k0_off8 (k0_t6 : Fin k0_t6_loop.trips) : Fin 2 → Nat :=
  let c0_i32_275 : BitVec 32 := 0#32
  let c0_i32_43 : BitVec 32 := 0#32
  let c1_i32_45 : BitVec 32 := 1#32
  let arg9 : BitVec 32 := Scf.iv c0_i32_43 c1_i32_45 k0_t6
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk5 (v216 : IVec S16 32) : Prop :=
  (∀ a x, ((![v216] : Fin 1 → IVec S16 32) a x).toNat < S65536.size a)
theorem k0_idx5_inb : ∀ (v216 : IVec S16 32) (k0_hw5 : k0_chk5 v216), ∀ a x, ((![v216] : Fin 1 → IVec S16 32) a x).toNat < S65536.size a := fun v216 k0_hw5 => k0_hw5
@[reducible] def k0_t7_loop : Scf.Loop 32 :=
  let c0_i32_51 : BitVec 32 := 0#32
  let c1024_i32_52 : BitVec 32 := 1024#32
  let v47 : BitVec 32 := Scalar.addi c0_i32_51 c1024_i32_52
  let c1_i32_53 : BitVec 32 := 1#32
  ⟨c0_i32_51, v47, c1_i32_53⟩
def k0_off9 (k0_t7 : Fin k0_t7_loop.trips) : Fin 2 → Nat :=
  let c0_i32_275 : BitVec 32 := 0#32
  let c0_i32_51 : BitVec 32 := 0#32
  let c1_i32_53 : BitVec 32 := 1#32
  let arg9 : BitVec 32 := Scf.iv c0_i32_51 c1_i32_53 k0_t7
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk6 (v216 : IVec S16 32) : Prop :=
  (∀ a x, ((![v216] : Fin 1 → IVec S16 32) a x).toNat < S65536.size a)
theorem k0_idx6_inb : ∀ (v216 : IVec S16 32) (k0_hw6 : k0_chk6 v216), ∀ a x, ((![v216] : Fin 1 → IVec S16 32) a x).toNat < S65536.size a := fun v216 k0_hw6 => k0_hw6
@[reducible] def k0_t8_loop : Scf.Loop 32 :=
  let c0_i32_60 : BitVec 32 := 0#32
  let c1024_i32_61 : BitVec 32 := 1024#32
  let v53 : BitVec 32 := Scalar.addi c0_i32_60 c1024_i32_61
  let c1_i32_62 : BitVec 32 := 1#32
  ⟨c0_i32_60, v53, c1_i32_62⟩
def k0_off10 (k0_t8 : Fin k0_t8_loop.trips) : Fin 2 → Nat :=
  let c0_i32_275 : BitVec 32 := 0#32
  let c0_i32_60 : BitVec 32 := 0#32
  let c1_i32_62 : BitVec 32 := 1#32
  let arg9 : BitVec 32 := Scf.iv c0_i32_60 c1_i32_62 k0_t8
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk7 (v216 : IVec S16 32) : Prop :=
  (∀ a x, ((![v216] : Fin 1 → IVec S16 32) a x).toNat < S65536.size a)
theorem k0_idx7_inb : ∀ (v216 : IVec S16 32) (k0_hw7 : k0_chk7 v216), ∀ a x, ((![v216] : Fin 1 → IVec S16 32) a x).toNat < S65536.size a := fun v216 k0_hw7 => k0_hw7
@[reducible] def k0_t9_loop : Scf.Loop 32 :=
  let c0_i32_68 : BitVec 32 := 0#32
  let c1024_i32_69 : BitVec 32 := 1024#32
  let v59 : BitVec 32 := Scalar.addi c0_i32_68 c1024_i32_69
  let c1_i32_70 : BitVec 32 := 1#32
  ⟨c0_i32_68, v59, c1_i32_70⟩
def k0_off11 (k0_t9 : Fin k0_t9_loop.trips) : Fin 2 → Nat :=
  let c0_i32_275 : BitVec 32 := 0#32
  let c0_i32_68 : BitVec 32 := 0#32
  let c1_i32_70 : BitVec 32 := 1#32
  let arg9 : BitVec 32 := Scf.iv c0_i32_68 c1_i32_70 k0_t9
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk8 (v216 : IVec S16 32) : Prop :=
  (∀ a x, ((![v216] : Fin 1 → IVec S16 32) a x).toNat < S65536.size a)
theorem k0_idx8_inb : ∀ (v216 : IVec S16 32) (k0_hw8 : k0_chk8 v216), ∀ a x, ((![v216] : Fin 1 → IVec S16 32) a x).toNat < S65536.size a := fun v216 k0_hw8 => k0_hw8
@[reducible] def k0_t10_loop : Scf.Loop 32 :=
  let c0_i32_77 : BitVec 32 := 0#32
  let c1024_i32_78 : BitVec 32 := 1024#32
  let v65 : BitVec 32 := Scalar.addi c0_i32_77 c1024_i32_78
  let c1_i32_79 : BitVec 32 := 1#32
  ⟨c0_i32_77, v65, c1_i32_79⟩
def k0_off12 (k0_t10 : Fin k0_t10_loop.trips) : Fin 2 → Nat :=
  let c0_i32_275 : BitVec 32 := 0#32
  let c0_i32_77 : BitVec 32 := 0#32
  let c1_i32_79 : BitVec 32 := 1#32
  let arg9 : BitVec 32 := Scf.iv c0_i32_77 c1_i32_79 k0_t10
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk9 (v216 : IVec S16 32) : Prop :=
  (∀ a x, ((![v216] : Fin 1 → IVec S16 32) a x).toNat < S65536.size a)
theorem k0_idx9_inb : ∀ (v216 : IVec S16 32) (k0_hw9 : k0_chk9 v216), ∀ a x, ((![v216] : Fin 1 → IVec S16 32) a x).toNat < S65536.size a := fun v216 k0_hw9 => k0_hw9
@[reducible] def k0_t11_loop : Scf.Loop 32 :=
  let c0_i32_85 : BitVec 32 := 0#32
  let c1024_i32_86 : BitVec 32 := 1024#32
  let v71 : BitVec 32 := Scalar.addi c0_i32_85 c1024_i32_86
  let c1_i32_87 : BitVec 32 := 1#32
  ⟨c0_i32_85, v71, c1_i32_87⟩
def k0_off13 (k0_t11 : Fin k0_t11_loop.trips) : Fin 2 → Nat :=
  let c0_i32_275 : BitVec 32 := 0#32
  let c0_i32_85 : BitVec 32 := 0#32
  let c1_i32_87 : BitVec 32 := 1#32
  let arg9 : BitVec 32 := Scf.iv c0_i32_85 c1_i32_87 k0_t11
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk10 (v216 : IVec S16 32) : Prop :=
  (∀ a x, ((![v216] : Fin 1 → IVec S16 32) a x).toNat < S65536.size a)
theorem k0_idx10_inb : ∀ (v216 : IVec S16 32) (k0_hw10 : k0_chk10 v216), ∀ a x, ((![v216] : Fin 1 → IVec S16 32) a x).toNat < S65536.size a := fun v216 k0_hw10 => k0_hw10
@[reducible] def k0_t12_loop : Scf.Loop 32 :=
  let c0_i32_94 : BitVec 32 := 0#32
  let c1024_i32_95 : BitVec 32 := 1024#32
  let v77 : BitVec 32 := Scalar.addi c0_i32_94 c1024_i32_95
  let c1_i32_96 : BitVec 32 := 1#32
  ⟨c0_i32_94, v77, c1_i32_96⟩
def k0_off14 (k0_t12 : Fin k0_t12_loop.trips) : Fin 2 → Nat :=
  let c0_i32_275 : BitVec 32 := 0#32
  let c0_i32_94 : BitVec 32 := 0#32
  let c1_i32_96 : BitVec 32 := 1#32
  let arg9 : BitVec 32 := Scf.iv c0_i32_94 c1_i32_96 k0_t12
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk11 (v216 : IVec S16 32) : Prop :=
  (∀ a x, ((![v216] : Fin 1 → IVec S16 32) a x).toNat < S65536.size a)
theorem k0_idx11_inb : ∀ (v216 : IVec S16 32) (k0_hw11 : k0_chk11 v216), ∀ a x, ((![v216] : Fin 1 → IVec S16 32) a x).toNat < S65536.size a := fun v216 k0_hw11 => k0_hw11
@[reducible] def k0_t13_loop : Scf.Loop 32 :=
  let c0_i32_102 : BitVec 32 := 0#32
  let c1024_i32_103 : BitVec 32 := 1024#32
  let v83 : BitVec 32 := Scalar.addi c0_i32_102 c1024_i32_103
  let c1_i32_104 : BitVec 32 := 1#32
  ⟨c0_i32_102, v83, c1_i32_104⟩
def k0_off15 (k0_t13 : Fin k0_t13_loop.trips) : Fin 2 → Nat :=
  let c0_i32_275 : BitVec 32 := 0#32
  let c0_i32_102 : BitVec 32 := 0#32
  let c1_i32_104 : BitVec 32 := 1#32
  let arg9 : BitVec 32 := Scf.iv c0_i32_102 c1_i32_104 k0_t13
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk12 (v216 : IVec S16 32) : Prop :=
  (∀ a x, ((![v216] : Fin 1 → IVec S16 32) a x).toNat < S65536.size a)
theorem k0_idx12_inb : ∀ (v216 : IVec S16 32) (k0_hw12 : k0_chk12 v216), ∀ a x, ((![v216] : Fin 1 → IVec S16 32) a x).toNat < S65536.size a := fun v216 k0_hw12 => k0_hw12
@[reducible] def k0_t14_loop : Scf.Loop 32 :=
  let c0_i32_111 : BitVec 32 := 0#32
  let c1024_i32_112 : BitVec 32 := 1024#32
  let v89 : BitVec 32 := Scalar.addi c0_i32_111 c1024_i32_112
  let c1_i32_113 : BitVec 32 := 1#32
  ⟨c0_i32_111, v89, c1_i32_113⟩
def k0_off16 (k0_t14 : Fin k0_t14_loop.trips) : Fin 2 → Nat :=
  let c0_i32_275 : BitVec 32 := 0#32
  let c0_i32_111 : BitVec 32 := 0#32
  let c1_i32_113 : BitVec 32 := 1#32
  let arg9 : BitVec 32 := Scf.iv c0_i32_111 c1_i32_113 k0_t14
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk13 (v216 : IVec S16 32) : Prop :=
  (∀ a x, ((![v216] : Fin 1 → IVec S16 32) a x).toNat < S65536.size a)
theorem k0_idx13_inb : ∀ (v216 : IVec S16 32) (k0_hw13 : k0_chk13 v216), ∀ a x, ((![v216] : Fin 1 → IVec S16 32) a x).toNat < S65536.size a := fun v216 k0_hw13 => k0_hw13
@[reducible] def k0_t15_loop : Scf.Loop 32 :=
  let c0_i32_119 : BitVec 32 := 0#32
  let c1024_i32_120 : BitVec 32 := 1024#32
  let v95 : BitVec 32 := Scalar.addi c0_i32_119 c1024_i32_120
  let c1_i32_121 : BitVec 32 := 1#32
  ⟨c0_i32_119, v95, c1_i32_121⟩
def k0_off17 (k0_t15 : Fin k0_t15_loop.trips) : Fin 2 → Nat :=
  let c0_i32_275 : BitVec 32 := 0#32
  let c0_i32_119 : BitVec 32 := 0#32
  let c1_i32_121 : BitVec 32 := 1#32
  let arg9 : BitVec 32 := Scf.iv c0_i32_119 c1_i32_121 k0_t15
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk14 (v216 : IVec S16 32) : Prop :=
  (∀ a x, ((![v216] : Fin 1 → IVec S16 32) a x).toNat < S65536.size a)
theorem k0_idx14_inb : ∀ (v216 : IVec S16 32) (k0_hw14 : k0_chk14 v216), ∀ a x, ((![v216] : Fin 1 → IVec S16 32) a x).toNat < S65536.size a := fun v216 k0_hw14 => k0_hw14
@[reducible] def k0_t16_loop : Scf.Loop 32 :=
  let c0_i32_128 : BitVec 32 := 0#32
  let c1024_i32_129 : BitVec 32 := 1024#32
  let v101 : BitVec 32 := Scalar.addi c0_i32_128 c1024_i32_129
  let c1_i32_130 : BitVec 32 := 1#32
  ⟨c0_i32_128, v101, c1_i32_130⟩
def k0_off18 (k0_t16 : Fin k0_t16_loop.trips) : Fin 2 → Nat :=
  let c0_i32_275 : BitVec 32 := 0#32
  let c0_i32_128 : BitVec 32 := 0#32
  let c1_i32_130 : BitVec 32 := 1#32
  let arg9 : BitVec 32 := Scf.iv c0_i32_128 c1_i32_130 k0_t16
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk15 (v216 : IVec S16 32) : Prop :=
  (∀ a x, ((![v216] : Fin 1 → IVec S16 32) a x).toNat < S65536.size a)
theorem k0_idx15_inb : ∀ (v216 : IVec S16 32) (k0_hw15 : k0_chk15 v216), ∀ a x, ((![v216] : Fin 1 → IVec S16 32) a x).toNat < S65536.size a := fun v216 k0_hw15 => k0_hw15
@[reducible] def k0_t17_loop : Scf.Loop 32 :=
  let c0_i32_136 : BitVec 32 := 0#32
  let c1024_i32_137 : BitVec 32 := 1024#32
  let v107 : BitVec 32 := Scalar.addi c0_i32_136 c1024_i32_137
  let c1_i32_138 : BitVec 32 := 1#32
  ⟨c0_i32_136, v107, c1_i32_138⟩
def k0_off19 (k0_t17 : Fin k0_t17_loop.trips) : Fin 2 → Nat :=
  let c0_i32_275 : BitVec 32 := 0#32
  let c0_i32_136 : BitVec 32 := 0#32
  let c1_i32_138 : BitVec 32 := 1#32
  let arg9 : BitVec 32 := Scf.iv c0_i32_136 c1_i32_138 k0_t17
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk16 (v216 : IVec S16 32) : Prop :=
  (∀ a x, ((![v216] : Fin 1 → IVec S16 32) a x).toNat < S65536.size a)
theorem k0_idx16_inb : ∀ (v216 : IVec S16 32) (k0_hw16 : k0_chk16 v216), ∀ a x, ((![v216] : Fin 1 → IVec S16 32) a x).toNat < S65536.size a := fun v216 k0_hw16 => k0_hw16
@[reducible] def k0_t18_loop : Scf.Loop 32 :=
  let c0_i32_145 : BitVec 32 := 0#32
  let c1024_i32_146 : BitVec 32 := 1024#32
  let v113 : BitVec 32 := Scalar.addi c0_i32_145 c1024_i32_146
  let c1_i32_147 : BitVec 32 := 1#32
  ⟨c0_i32_145, v113, c1_i32_147⟩
def k0_off20 (k0_t18 : Fin k0_t18_loop.trips) : Fin 2 → Nat :=
  let c0_i32_275 : BitVec 32 := 0#32
  let c0_i32_145 : BitVec 32 := 0#32
  let c1_i32_147 : BitVec 32 := 1#32
  let arg9 : BitVec 32 := Scf.iv c0_i32_145 c1_i32_147 k0_t18
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk17 (v216 : IVec S16 32) : Prop :=
  (∀ a x, ((![v216] : Fin 1 → IVec S16 32) a x).toNat < S65536.size a)
theorem k0_idx17_inb : ∀ (v216 : IVec S16 32) (k0_hw17 : k0_chk17 v216), ∀ a x, ((![v216] : Fin 1 → IVec S16 32) a x).toNat < S65536.size a := fun v216 k0_hw17 => k0_hw17
@[reducible] def k0_t19_loop : Scf.Loop 32 :=
  let c0_i32_153 : BitVec 32 := 0#32
  let c1024_i32_154 : BitVec 32 := 1024#32
  let v119 : BitVec 32 := Scalar.addi c0_i32_153 c1024_i32_154
  let c1_i32_155 : BitVec 32 := 1#32
  ⟨c0_i32_153, v119, c1_i32_155⟩
def k0_off21 (k0_t19 : Fin k0_t19_loop.trips) : Fin 2 → Nat :=
  let c0_i32_275 : BitVec 32 := 0#32
  let c0_i32_153 : BitVec 32 := 0#32
  let c1_i32_155 : BitVec 32 := 1#32
  let arg9 : BitVec 32 := Scf.iv c0_i32_153 c1_i32_155 k0_t19
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk18 (v216 : IVec S16 32) : Prop :=
  (∀ a x, ((![v216] : Fin 1 → IVec S16 32) a x).toNat < S65536.size a)
theorem k0_idx18_inb : ∀ (v216 : IVec S16 32) (k0_hw18 : k0_chk18 v216), ∀ a x, ((![v216] : Fin 1 → IVec S16 32) a x).toNat < S65536.size a := fun v216 k0_hw18 => k0_hw18
@[reducible] def k0_t20_loop : Scf.Loop 32 :=
  let c0_i32_162 : BitVec 32 := 0#32
  let c1024_i32_163 : BitVec 32 := 1024#32
  let v125 : BitVec 32 := Scalar.addi c0_i32_162 c1024_i32_163
  let c1_i32_164 : BitVec 32 := 1#32
  ⟨c0_i32_162, v125, c1_i32_164⟩
def k0_off22 (k0_t20 : Fin k0_t20_loop.trips) : Fin 2 → Nat :=
  let c0_i32_275 : BitVec 32 := 0#32
  let c0_i32_162 : BitVec 32 := 0#32
  let c1_i32_164 : BitVec 32 := 1#32
  let arg9 : BitVec 32 := Scf.iv c0_i32_162 c1_i32_164 k0_t20
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk19 (v216 : IVec S16 32) : Prop :=
  (∀ a x, ((![v216] : Fin 1 → IVec S16 32) a x).toNat < S65536.size a)
theorem k0_idx19_inb : ∀ (v216 : IVec S16 32) (k0_hw19 : k0_chk19 v216), ∀ a x, ((![v216] : Fin 1 → IVec S16 32) a x).toNat < S65536.size a := fun v216 k0_hw19 => k0_hw19
@[reducible] def k0_t21_loop : Scf.Loop 32 :=
  let c0_i32_170 : BitVec 32 := 0#32
  let c1024_i32_171 : BitVec 32 := 1024#32
  let v131 : BitVec 32 := Scalar.addi c0_i32_170 c1024_i32_171
  let c1_i32_172 : BitVec 32 := 1#32
  ⟨c0_i32_170, v131, c1_i32_172⟩
def k0_off23 (k0_t21 : Fin k0_t21_loop.trips) : Fin 2 → Nat :=
  let c0_i32_275 : BitVec 32 := 0#32
  let c0_i32_170 : BitVec 32 := 0#32
  let c1_i32_172 : BitVec 32 := 1#32
  let arg9 : BitVec 32 := Scf.iv c0_i32_170 c1_i32_172 k0_t21
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk20 (v216 : IVec S16 32) : Prop :=
  (∀ a x, ((![v216] : Fin 1 → IVec S16 32) a x).toNat < S65536.size a)
theorem k0_idx20_inb : ∀ (v216 : IVec S16 32) (k0_hw20 : k0_chk20 v216), ∀ a x, ((![v216] : Fin 1 → IVec S16 32) a x).toNat < S65536.size a := fun v216 k0_hw20 => k0_hw20
@[reducible] def k0_t22_loop : Scf.Loop 32 :=
  let c0_i32_179 : BitVec 32 := 0#32
  let c1024_i32_180 : BitVec 32 := 1024#32
  let v137 : BitVec 32 := Scalar.addi c0_i32_179 c1024_i32_180
  let c1_i32_181 : BitVec 32 := 1#32
  ⟨c0_i32_179, v137, c1_i32_181⟩
def k0_off24 (k0_t22 : Fin k0_t22_loop.trips) : Fin 2 → Nat :=
  let c0_i32_275 : BitVec 32 := 0#32
  let c0_i32_179 : BitVec 32 := 0#32
  let c1_i32_181 : BitVec 32 := 1#32
  let arg9 : BitVec 32 := Scf.iv c0_i32_179 c1_i32_181 k0_t22
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk21 (v216 : IVec S16 32) : Prop :=
  (∀ a x, ((![v216] : Fin 1 → IVec S16 32) a x).toNat < S65536.size a)
theorem k0_idx21_inb : ∀ (v216 : IVec S16 32) (k0_hw21 : k0_chk21 v216), ∀ a x, ((![v216] : Fin 1 → IVec S16 32) a x).toNat < S65536.size a := fun v216 k0_hw21 => k0_hw21
@[reducible] def k0_t23_loop : Scf.Loop 32 :=
  let c0_i32_187 : BitVec 32 := 0#32
  let c1024_i32_188 : BitVec 32 := 1024#32
  let v143 : BitVec 32 := Scalar.addi c0_i32_187 c1024_i32_188
  let c1_i32_189 : BitVec 32 := 1#32
  ⟨c0_i32_187, v143, c1_i32_189⟩
def k0_off25 (k0_t23 : Fin k0_t23_loop.trips) : Fin 2 → Nat :=
  let c0_i32_275 : BitVec 32 := 0#32
  let c0_i32_187 : BitVec 32 := 0#32
  let c1_i32_189 : BitVec 32 := 1#32
  let arg9 : BitVec 32 := Scf.iv c0_i32_187 c1_i32_189 k0_t23
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk22 (v216 : IVec S16 32) : Prop :=
  (∀ a x, ((![v216] : Fin 1 → IVec S16 32) a x).toNat < S65536.size a)
theorem k0_idx22_inb : ∀ (v216 : IVec S16 32) (k0_hw22 : k0_chk22 v216), ∀ a x, ((![v216] : Fin 1 → IVec S16 32) a x).toNat < S65536.size a := fun v216 k0_hw22 => k0_hw22
@[reducible] def k0_t24_loop : Scf.Loop 32 :=
  let c0_i32_196 : BitVec 32 := 0#32
  let c1024_i32_197 : BitVec 32 := 1024#32
  let v149 : BitVec 32 := Scalar.addi c0_i32_196 c1024_i32_197
  let c1_i32_198 : BitVec 32 := 1#32
  ⟨c0_i32_196, v149, c1_i32_198⟩
def k0_off26 (k0_t24 : Fin k0_t24_loop.trips) : Fin 2 → Nat :=
  let c0_i32_275 : BitVec 32 := 0#32
  let c0_i32_196 : BitVec 32 := 0#32
  let c1_i32_198 : BitVec 32 := 1#32
  let arg9 : BitVec 32 := Scf.iv c0_i32_196 c1_i32_198 k0_t24
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk23 (v216 : IVec S16 32) : Prop :=
  (∀ a x, ((![v216] : Fin 1 → IVec S16 32) a x).toNat < S65536.size a)
theorem k0_idx23_inb : ∀ (v216 : IVec S16 32) (k0_hw23 : k0_chk23 v216), ∀ a x, ((![v216] : Fin 1 → IVec S16 32) a x).toNat < S65536.size a := fun v216 k0_hw23 => k0_hw23
@[reducible] def k0_t25_loop : Scf.Loop 32 :=
  let c0_i32_204 : BitVec 32 := 0#32
  let c1024_i32_205 : BitVec 32 := 1024#32
  let v155 : BitVec 32 := Scalar.addi c0_i32_204 c1024_i32_205
  let c1_i32_206 : BitVec 32 := 1#32
  ⟨c0_i32_204, v155, c1_i32_206⟩
def k0_off27 (k0_t25 : Fin k0_t25_loop.trips) : Fin 2 → Nat :=
  let c0_i32_275 : BitVec 32 := 0#32
  let c0_i32_204 : BitVec 32 := 0#32
  let c1_i32_206 : BitVec 32 := 1#32
  let arg9 : BitVec 32 := Scf.iv c0_i32_204 c1_i32_206 k0_t25
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk24 (v216 : IVec S16 32) : Prop :=
  (∀ a x, ((![v216] : Fin 1 → IVec S16 32) a x).toNat < S65536.size a)
theorem k0_idx24_inb : ∀ (v216 : IVec S16 32) (k0_hw24 : k0_chk24 v216), ∀ a x, ((![v216] : Fin 1 → IVec S16 32) a x).toNat < S65536.size a := fun v216 k0_hw24 => k0_hw24
@[reducible] def k0_t26_loop : Scf.Loop 32 :=
  let c0_i32_213 : BitVec 32 := 0#32
  let c1024_i32_214 : BitVec 32 := 1024#32
  let v161 : BitVec 32 := Scalar.addi c0_i32_213 c1024_i32_214
  let c1_i32_215 : BitVec 32 := 1#32
  ⟨c0_i32_213, v161, c1_i32_215⟩
def k0_off28 (k0_t26 : Fin k0_t26_loop.trips) : Fin 2 → Nat :=
  let c0_i32_275 : BitVec 32 := 0#32
  let c0_i32_213 : BitVec 32 := 0#32
  let c1_i32_215 : BitVec 32 := 1#32
  let arg9 : BitVec 32 := Scf.iv c0_i32_213 c1_i32_215 k0_t26
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk25 (v216 : IVec S16 32) : Prop :=
  (∀ a x, ((![v216] : Fin 1 → IVec S16 32) a x).toNat < S65536.size a)
theorem k0_idx25_inb : ∀ (v216 : IVec S16 32) (k0_hw25 : k0_chk25 v216), ∀ a x, ((![v216] : Fin 1 → IVec S16 32) a x).toNat < S65536.size a := fun v216 k0_hw25 => k0_hw25
@[reducible] def k0_t27_loop : Scf.Loop 32 :=
  let c0_i32_221 : BitVec 32 := 0#32
  let c1024_i32_222 : BitVec 32 := 1024#32
  let v167 : BitVec 32 := Scalar.addi c0_i32_221 c1024_i32_222
  let c1_i32_223 : BitVec 32 := 1#32
  ⟨c0_i32_221, v167, c1_i32_223⟩
def k0_off29 (k0_t27 : Fin k0_t27_loop.trips) : Fin 2 → Nat :=
  let c0_i32_275 : BitVec 32 := 0#32
  let c0_i32_221 : BitVec 32 := 0#32
  let c1_i32_223 : BitVec 32 := 1#32
  let arg9 : BitVec 32 := Scf.iv c0_i32_221 c1_i32_223 k0_t27
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk26 (v216 : IVec S16 32) : Prop :=
  (∀ a x, ((![v216] : Fin 1 → IVec S16 32) a x).toNat < S65536.size a)
theorem k0_idx26_inb : ∀ (v216 : IVec S16 32) (k0_hw26 : k0_chk26 v216), ∀ a x, ((![v216] : Fin 1 → IVec S16 32) a x).toNat < S65536.size a := fun v216 k0_hw26 => k0_hw26
@[reducible] def k0_t28_loop : Scf.Loop 32 :=
  let c0_i32_230 : BitVec 32 := 0#32
  let c1024_i32_231 : BitVec 32 := 1024#32
  let v173 : BitVec 32 := Scalar.addi c0_i32_230 c1024_i32_231
  let c1_i32_232 : BitVec 32 := 1#32
  ⟨c0_i32_230, v173, c1_i32_232⟩
def k0_off30 (k0_t28 : Fin k0_t28_loop.trips) : Fin 2 → Nat :=
  let c0_i32_275 : BitVec 32 := 0#32
  let c0_i32_230 : BitVec 32 := 0#32
  let c1_i32_232 : BitVec 32 := 1#32
  let arg9 : BitVec 32 := Scf.iv c0_i32_230 c1_i32_232 k0_t28
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk27 (v216 : IVec S16 32) : Prop :=
  (∀ a x, ((![v216] : Fin 1 → IVec S16 32) a x).toNat < S65536.size a)
theorem k0_idx27_inb : ∀ (v216 : IVec S16 32) (k0_hw27 : k0_chk27 v216), ∀ a x, ((![v216] : Fin 1 → IVec S16 32) a x).toNat < S65536.size a := fun v216 k0_hw27 => k0_hw27
@[reducible] def k0_t29_loop : Scf.Loop 32 :=
  let c0_i32_238 : BitVec 32 := 0#32
  let c1024_i32_239 : BitVec 32 := 1024#32
  let v179 : BitVec 32 := Scalar.addi c0_i32_238 c1024_i32_239
  let c1_i32_240 : BitVec 32 := 1#32
  ⟨c0_i32_238, v179, c1_i32_240⟩
def k0_off31 (k0_t29 : Fin k0_t29_loop.trips) : Fin 2 → Nat :=
  let c0_i32_275 : BitVec 32 := 0#32
  let c0_i32_238 : BitVec 32 := 0#32
  let c1_i32_240 : BitVec 32 := 1#32
  let arg9 : BitVec 32 := Scf.iv c0_i32_238 c1_i32_240 k0_t29
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk28 (v216 : IVec S16 32) : Prop :=
  (∀ a x, ((![v216] : Fin 1 → IVec S16 32) a x).toNat < S65536.size a)
theorem k0_idx28_inb : ∀ (v216 : IVec S16 32) (k0_hw28 : k0_chk28 v216), ∀ a x, ((![v216] : Fin 1 → IVec S16 32) a x).toNat < S65536.size a := fun v216 k0_hw28 => k0_hw28
@[reducible] def k0_t30_loop : Scf.Loop 32 :=
  let c0_i32_247 : BitVec 32 := 0#32
  let c1024_i32_248 : BitVec 32 := 1024#32
  let v185 : BitVec 32 := Scalar.addi c0_i32_247 c1024_i32_248
  let c1_i32_249 : BitVec 32 := 1#32
  ⟨c0_i32_247, v185, c1_i32_249⟩
def k0_off32 (k0_t30 : Fin k0_t30_loop.trips) : Fin 2 → Nat :=
  let c0_i32_275 : BitVec 32 := 0#32
  let c0_i32_247 : BitVec 32 := 0#32
  let c1_i32_249 : BitVec 32 := 1#32
  let arg9 : BitVec 32 := Scf.iv c0_i32_247 c1_i32_249 k0_t30
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk29 (v216 : IVec S16 32) : Prop :=
  (∀ a x, ((![v216] : Fin 1 → IVec S16 32) a x).toNat < S65536.size a)
theorem k0_idx29_inb : ∀ (v216 : IVec S16 32) (k0_hw29 : k0_chk29 v216), ∀ a x, ((![v216] : Fin 1 → IVec S16 32) a x).toNat < S65536.size a := fun v216 k0_hw29 => k0_hw29
@[reducible] def k0_t31_loop : Scf.Loop 32 :=
  let c0_i32_255 : BitVec 32 := 0#32
  let c1024_i32_256 : BitVec 32 := 1024#32
  let v191 : BitVec 32 := Scalar.addi c0_i32_255 c1024_i32_256
  let c1_i32_257 : BitVec 32 := 1#32
  ⟨c0_i32_255, v191, c1_i32_257⟩
def k0_off33 (k0_t31 : Fin k0_t31_loop.trips) : Fin 2 → Nat :=
  let c0_i32_275 : BitVec 32 := 0#32
  let c0_i32_255 : BitVec 32 := 0#32
  let c1_i32_257 : BitVec 32 := 1#32
  let arg9 : BitVec 32 := Scf.iv c0_i32_255 c1_i32_257 k0_t31
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk30 (v216 : IVec S16 32) : Prop :=
  (∀ a x, ((![v216] : Fin 1 → IVec S16 32) a x).toNat < S65536.size a)
theorem k0_idx30_inb : ∀ (v216 : IVec S16 32) (k0_hw30 : k0_chk30 v216), ∀ a x, ((![v216] : Fin 1 → IVec S16 32) a x).toNat < S65536.size a := fun v216 k0_hw30 => k0_hw30
@[reducible] def k0_t32_loop : Scf.Loop 32 :=
  let c0_i32_264 : BitVec 32 := 0#32
  let c1024_i32_265 : BitVec 32 := 1024#32
  let v197 : BitVec 32 := Scalar.addi c0_i32_264 c1024_i32_265
  let c1_i32_266 : BitVec 32 := 1#32
  ⟨c0_i32_264, v197, c1_i32_266⟩
def k0_off34 (k0_t32 : Fin k0_t32_loop.trips) : Fin 2 → Nat :=
  let c0_i32_275 : BitVec 32 := 0#32
  let c0_i32_264 : BitVec 32 := 0#32
  let c1_i32_266 : BitVec 32 := 1#32
  let arg9 : BitVec 32 := Scf.iv c0_i32_264 c1_i32_266 k0_t32
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk31 (v216 : IVec S16 32) : Prop :=
  (∀ a x, ((![v216] : Fin 1 → IVec S16 32) a x).toNat < S65536.size a)
theorem k0_idx31_inb : ∀ (v216 : IVec S16 32) (k0_hw31 : k0_chk31 v216), ∀ a x, ((![v216] : Fin 1 → IVec S16 32) a x).toNat < S65536.size a := fun v216 k0_hw31 => k0_hw31
@[reducible] def k0_t33_loop : Scf.Loop 32 :=
  let c0_i32_270 : BitVec 32 := 0#32
  let c1024_i32_271 : BitVec 32 := 1024#32
  let v200 : BitVec 32 := Scalar.addi c0_i32_270 c1024_i32_271
  let c1_i32_272 : BitVec 32 := 1#32
  ⟨c0_i32_270, v200, c1_i32_272⟩
def k0_off35 (k0_t33 : Fin k0_t33_loop.trips) : Fin 2 → Nat :=
  let c0_i32_275 : BitVec 32 := 0#32
  let c0_i32_270 : BitVec 32 := 0#32
  let c1_i32_272 : BitVec 32 := 1#32
  let arg9 : BitVec 32 := Scf.iv c0_i32_270 c1_i32_272 k0_t33
  let c1_i32_274 : BitVec 32 := 1#32
  let v202 : BitVec 32 := Scalar.muli arg9 c1_i32_274
  let v203 : BitVec 32 := Scalar.addi c0_i32_275 v202
  let c7_i32 : BitVec 32 := 7#32
  let v204 : BitVec 32 := Scalar.shrsi v203 c7_i32
  let v207 : Index := Scalar.indexCast v204
  let c127_i32 : BitVec 32 := 127#32
  let v205 : BitVec 32 := Scalar.andi v203 c127_i32
  let c16_i32_276 : BitVec 32 := 16#32
  let v206 : BitVec 32 := Scalar.muli v205 c16_i32_276
  let v208 : Index := Scalar.indexCast v206
  ![v207.toNat, v208.toNat]

def k0_chk32 (v216 : IVec S16 32) : Prop :=
  (∀ a x, ((![v216] : Fin 1 → IVec S16 32) a x).toNat < S65536.size a)
theorem k0_idx32_inb : ∀ (v216 : IVec S16 32) (k0_hw32 : k0_chk32 v216), ∀ a x, ((![v216] : Fin 1 → IVec S16 32) a x).toNat < S65536.size a := fun v216 k0_hw32 => k0_hw32
def k0_off36 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v201 : BitVec 32 := Scalar.muli v1 c65536_i32
  ![v201.toNat]
abbrev grid1 : Pipeline.Grid := .none

abbrev stage1_0 : Fin 1 → Memref sig .tc .vmem S32x512x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_0 : BitVec 32 := 0#32
  let c4096_i32 : BitVec 32 := 4096#32
  let v8 : BitVec 32 := Scalar.addi c0_i32_0 c4096_i32
  let c1_i32_1 : BitVec 32 := 1#32
  ⟨c0_i32_0, v8, c1_i32_1⟩
def k2_off1 (k2_t1 : Fin k2_t1_loop.trips) : Fin 1 → Nat :=
  let c0_i32_276 : BitVec 32 := 0#32
  let c0_i32_0 : BitVec 32 := 0#32
  let c1_i32_1 : BitVec 32 := 1#32
  let arg11 : BitVec 32 := Scf.iv c0_i32_0 c1_i32_1 k2_t1
  let c1_i32_275 : BitVec 32 := 1#32
  let v203 : BitVec 32 := Scalar.muli arg11 c1_i32_275
  let v204 : BitVec 32 := Scalar.addi c0_i32_276 v203
  let c16_i32_277 : BitVec 32 := 16#32
  let v205 : BitVec 32 := Scalar.muli v204 c16_i32_277
  let v206 : Index := Scalar.indexCast v205
  ![v206.toNat]
def k2_off2 (i : grid2.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v10 : BitVec 32 := Scalar.addi v2 c0_i32_4
  let c0_i32_5 : BitVec 32 := 0#32
  ![v10.toNat, 0]
def k2_off3 (i : grid2.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v13 : BitVec 32 := Scalar.addi v2 c0_i32_7
  let c2048_i32 : BitVec 32 := 2048#32
  ![v13.toNat, 2048]
@[reducible] def k2_t2_loop : Scf.Loop 32 :=
  let c0_i32_11 : BitVec 32 := 0#32
  let c1024_i32 : BitVec 32 := 1024#32
  let v18 : BitVec 32 := Scalar.addi c0_i32_11 c1024_i32
  let c1_i32_12 : BitVec 32 := 1#32
  ⟨c0_i32_11, v18, c1_i32_12⟩
def k2_off4 (k2_t2 : Fin k2_t2_loop.trips) : Fin 2 → Nat :=
  let c0_i32_276 : BitVec 32 := 0#32
  let c0_i32_11 : BitVec 32 := 0#32
  let c1_i32_12 : BitVec 32 := 1#32
  let arg11 : BitVec 32 := Scf.iv c0_i32_11 c1_i32_12 k2_t2
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk1 (v220 : IVec S16 32) : Prop :=
  (∀ a x, ((![v220] : Fin 1 → IVec S16 32) a x).toNat < S65536.size a)
theorem k2_idx1_inb : ∀ (v220 : IVec S16 32) (k2_hw1 : k2_chk1 v220), ∀ a x, ((![v220] : Fin 1 → IVec S16 32) a x).toNat < S65536.size a := fun v220 k2_hw1 => k2_hw1
@[reducible] def k2_t3_loop : Scf.Loop 32 :=
  let c0_i32_18 : BitVec 32 := 0#32
  let c1024_i32_19 : BitVec 32 := 1024#32
  let v24 : BitVec 32 := Scalar.addi c0_i32_18 c1024_i32_19
  let c1_i32_20 : BitVec 32 := 1#32
  ⟨c0_i32_18, v24, c1_i32_20⟩
def k2_off5 (k2_t3 : Fin k2_t3_loop.trips) : Fin 2 → Nat :=
  let c0_i32_276 : BitVec 32 := 0#32
  let c0_i32_18 : BitVec 32 := 0#32
  let c1_i32_20 : BitVec 32 := 1#32
  let arg11 : BitVec 32 := Scf.iv c0_i32_18 c1_i32_20 k2_t3
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk2 (v220 : IVec S16 32) : Prop :=
  (∀ a x, ((![v220] : Fin 1 → IVec S16 32) a x).toNat < S65536.size a)
theorem k2_idx2_inb : ∀ (v220 : IVec S16 32) (k2_hw2 : k2_chk2 v220), ∀ a x, ((![v220] : Fin 1 → IVec S16 32) a x).toNat < S65536.size a := fun v220 k2_hw2 => k2_hw2
@[reducible] def k2_t4_loop : Scf.Loop 32 :=
  let c0_i32_27 : BitVec 32 := 0#32
  let c1024_i32_28 : BitVec 32 := 1024#32
  let v30 : BitVec 32 := Scalar.addi c0_i32_27 c1024_i32_28
  let c1_i32_29 : BitVec 32 := 1#32
  ⟨c0_i32_27, v30, c1_i32_29⟩
def k2_off6 (k2_t4 : Fin k2_t4_loop.trips) : Fin 2 → Nat :=
  let c0_i32_276 : BitVec 32 := 0#32
  let c0_i32_27 : BitVec 32 := 0#32
  let c1_i32_29 : BitVec 32 := 1#32
  let arg11 : BitVec 32 := Scf.iv c0_i32_27 c1_i32_29 k2_t4
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk3 (v220 : IVec S16 32) : Prop :=
  (∀ a x, ((![v220] : Fin 1 → IVec S16 32) a x).toNat < S65536.size a)
theorem k2_idx3_inb : ∀ (v220 : IVec S16 32) (k2_hw3 : k2_chk3 v220), ∀ a x, ((![v220] : Fin 1 → IVec S16 32) a x).toNat < S65536.size a := fun v220 k2_hw3 => k2_hw3
@[reducible] def k2_t5_loop : Scf.Loop 32 :=
  let c0_i32_35 : BitVec 32 := 0#32
  let c1024_i32_36 : BitVec 32 := 1024#32
  let v36 : BitVec 32 := Scalar.addi c0_i32_35 c1024_i32_36
  let c1_i32_37 : BitVec 32 := 1#32
  ⟨c0_i32_35, v36, c1_i32_37⟩
def k2_off7 (k2_t5 : Fin k2_t5_loop.trips) : Fin 2 → Nat :=
  let c0_i32_276 : BitVec 32 := 0#32
  let c0_i32_35 : BitVec 32 := 0#32
  let c1_i32_37 : BitVec 32 := 1#32
  let arg11 : BitVec 32 := Scf.iv c0_i32_35 c1_i32_37 k2_t5
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk4 (v220 : IVec S16 32) : Prop :=
  (∀ a x, ((![v220] : Fin 1 → IVec S16 32) a x).toNat < S65536.size a)
theorem k2_idx4_inb : ∀ (v220 : IVec S16 32) (k2_hw4 : k2_chk4 v220), ∀ a x, ((![v220] : Fin 1 → IVec S16 32) a x).toNat < S65536.size a := fun v220 k2_hw4 => k2_hw4
@[reducible] def k2_t6_loop : Scf.Loop 32 :=
  let c0_i32_44 : BitVec 32 := 0#32
  let c1024_i32_45 : BitVec 32 := 1024#32
  let v42 : BitVec 32 := Scalar.addi c0_i32_44 c1024_i32_45
  let c1_i32_46 : BitVec 32 := 1#32
  ⟨c0_i32_44, v42, c1_i32_46⟩
def k2_off8 (k2_t6 : Fin k2_t6_loop.trips) : Fin 2 → Nat :=
  let c0_i32_276 : BitVec 32 := 0#32
  let c0_i32_44 : BitVec 32 := 0#32
  let c1_i32_46 : BitVec 32 := 1#32
  let arg11 : BitVec 32 := Scf.iv c0_i32_44 c1_i32_46 k2_t6
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk5 (v220 : IVec S16 32) : Prop :=
  (∀ a x, ((![v220] : Fin 1 → IVec S16 32) a x).toNat < S65536.size a)
theorem k2_idx5_inb : ∀ (v220 : IVec S16 32) (k2_hw5 : k2_chk5 v220), ∀ a x, ((![v220] : Fin 1 → IVec S16 32) a x).toNat < S65536.size a := fun v220 k2_hw5 => k2_hw5
@[reducible] def k2_t7_loop : Scf.Loop 32 :=
  let c0_i32_52 : BitVec 32 := 0#32
  let c1024_i32_53 : BitVec 32 := 1024#32
  let v48 : BitVec 32 := Scalar.addi c0_i32_52 c1024_i32_53
  let c1_i32_54 : BitVec 32 := 1#32
  ⟨c0_i32_52, v48, c1_i32_54⟩
def k2_off9 (k2_t7 : Fin k2_t7_loop.trips) : Fin 2 → Nat :=
  let c0_i32_276 : BitVec 32 := 0#32
  let c0_i32_52 : BitVec 32 := 0#32
  let c1_i32_54 : BitVec 32 := 1#32
  let arg11 : BitVec 32 := Scf.iv c0_i32_52 c1_i32_54 k2_t7
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk6 (v220 : IVec S16 32) : Prop :=
  (∀ a x, ((![v220] : Fin 1 → IVec S16 32) a x).toNat < S65536.size a)
theorem k2_idx6_inb : ∀ (v220 : IVec S16 32) (k2_hw6 : k2_chk6 v220), ∀ a x, ((![v220] : Fin 1 → IVec S16 32) a x).toNat < S65536.size a := fun v220 k2_hw6 => k2_hw6
@[reducible] def k2_t8_loop : Scf.Loop 32 :=
  let c0_i32_61 : BitVec 32 := 0#32
  let c1024_i32_62 : BitVec 32 := 1024#32
  let v54 : BitVec 32 := Scalar.addi c0_i32_61 c1024_i32_62
  let c1_i32_63 : BitVec 32 := 1#32
  ⟨c0_i32_61, v54, c1_i32_63⟩
def k2_off10 (k2_t8 : Fin k2_t8_loop.trips) : Fin 2 → Nat :=
  let c0_i32_276 : BitVec 32 := 0#32
  let c0_i32_61 : BitVec 32 := 0#32
  let c1_i32_63 : BitVec 32 := 1#32
  let arg11 : BitVec 32 := Scf.iv c0_i32_61 c1_i32_63 k2_t8
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk7 (v220 : IVec S16 32) : Prop :=
  (∀ a x, ((![v220] : Fin 1 → IVec S16 32) a x).toNat < S65536.size a)
theorem k2_idx7_inb : ∀ (v220 : IVec S16 32) (k2_hw7 : k2_chk7 v220), ∀ a x, ((![v220] : Fin 1 → IVec S16 32) a x).toNat < S65536.size a := fun v220 k2_hw7 => k2_hw7
@[reducible] def k2_t9_loop : Scf.Loop 32 :=
  let c0_i32_69 : BitVec 32 := 0#32
  let c1024_i32_70 : BitVec 32 := 1024#32
  let v60 : BitVec 32 := Scalar.addi c0_i32_69 c1024_i32_70
  let c1_i32_71 : BitVec 32 := 1#32
  ⟨c0_i32_69, v60, c1_i32_71⟩
def k2_off11 (k2_t9 : Fin k2_t9_loop.trips) : Fin 2 → Nat :=
  let c0_i32_276 : BitVec 32 := 0#32
  let c0_i32_69 : BitVec 32 := 0#32
  let c1_i32_71 : BitVec 32 := 1#32
  let arg11 : BitVec 32 := Scf.iv c0_i32_69 c1_i32_71 k2_t9
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk8 (v220 : IVec S16 32) : Prop :=
  (∀ a x, ((![v220] : Fin 1 → IVec S16 32) a x).toNat < S65536.size a)
theorem k2_idx8_inb : ∀ (v220 : IVec S16 32) (k2_hw8 : k2_chk8 v220), ∀ a x, ((![v220] : Fin 1 → IVec S16 32) a x).toNat < S65536.size a := fun v220 k2_hw8 => k2_hw8
@[reducible] def k2_t10_loop : Scf.Loop 32 :=
  let c0_i32_78 : BitVec 32 := 0#32
  let c1024_i32_79 : BitVec 32 := 1024#32
  let v66 : BitVec 32 := Scalar.addi c0_i32_78 c1024_i32_79
  let c1_i32_80 : BitVec 32 := 1#32
  ⟨c0_i32_78, v66, c1_i32_80⟩
def k2_off12 (k2_t10 : Fin k2_t10_loop.trips) : Fin 2 → Nat :=
  let c0_i32_276 : BitVec 32 := 0#32
  let c0_i32_78 : BitVec 32 := 0#32
  let c1_i32_80 : BitVec 32 := 1#32
  let arg11 : BitVec 32 := Scf.iv c0_i32_78 c1_i32_80 k2_t10
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk9 (v220 : IVec S16 32) : Prop :=
  (∀ a x, ((![v220] : Fin 1 → IVec S16 32) a x).toNat < S65536.size a)
theorem k2_idx9_inb : ∀ (v220 : IVec S16 32) (k2_hw9 : k2_chk9 v220), ∀ a x, ((![v220] : Fin 1 → IVec S16 32) a x).toNat < S65536.size a := fun v220 k2_hw9 => k2_hw9
@[reducible] def k2_t11_loop : Scf.Loop 32 :=
  let c0_i32_86 : BitVec 32 := 0#32
  let c1024_i32_87 : BitVec 32 := 1024#32
  let v72 : BitVec 32 := Scalar.addi c0_i32_86 c1024_i32_87
  let c1_i32_88 : BitVec 32 := 1#32
  ⟨c0_i32_86, v72, c1_i32_88⟩
def k2_off13 (k2_t11 : Fin k2_t11_loop.trips) : Fin 2 → Nat :=
  let c0_i32_276 : BitVec 32 := 0#32
  let c0_i32_86 : BitVec 32 := 0#32
  let c1_i32_88 : BitVec 32 := 1#32
  let arg11 : BitVec 32 := Scf.iv c0_i32_86 c1_i32_88 k2_t11
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk10 (v220 : IVec S16 32) : Prop :=
  (∀ a x, ((![v220] : Fin 1 → IVec S16 32) a x).toNat < S65536.size a)
theorem k2_idx10_inb : ∀ (v220 : IVec S16 32) (k2_hw10 : k2_chk10 v220), ∀ a x, ((![v220] : Fin 1 → IVec S16 32) a x).toNat < S65536.size a := fun v220 k2_hw10 => k2_hw10
@[reducible] def k2_t12_loop : Scf.Loop 32 :=
  let c0_i32_95 : BitVec 32 := 0#32
  let c1024_i32_96 : BitVec 32 := 1024#32
  let v78 : BitVec 32 := Scalar.addi c0_i32_95 c1024_i32_96
  let c1_i32_97 : BitVec 32 := 1#32
  ⟨c0_i32_95, v78, c1_i32_97⟩
def k2_off14 (k2_t12 : Fin k2_t12_loop.trips) : Fin 2 → Nat :=
  let c0_i32_276 : BitVec 32 := 0#32
  let c0_i32_95 : BitVec 32 := 0#32
  let c1_i32_97 : BitVec 32 := 1#32
  let arg11 : BitVec 32 := Scf.iv c0_i32_95 c1_i32_97 k2_t12
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk11 (v220 : IVec S16 32) : Prop :=
  (∀ a x, ((![v220] : Fin 1 → IVec S16 32) a x).toNat < S65536.size a)
theorem k2_idx11_inb : ∀ (v220 : IVec S16 32) (k2_hw11 : k2_chk11 v220), ∀ a x, ((![v220] : Fin 1 → IVec S16 32) a x).toNat < S65536.size a := fun v220 k2_hw11 => k2_hw11
@[reducible] def k2_t13_loop : Scf.Loop 32 :=
  let c0_i32_103 : BitVec 32 := 0#32
  let c1024_i32_104 : BitVec 32 := 1024#32
  let v84 : BitVec 32 := Scalar.addi c0_i32_103 c1024_i32_104
  let c1_i32_105 : BitVec 32 := 1#32
  ⟨c0_i32_103, v84, c1_i32_105⟩
def k2_off15 (k2_t13 : Fin k2_t13_loop.trips) : Fin 2 → Nat :=
  let c0_i32_276 : BitVec 32 := 0#32
  let c0_i32_103 : BitVec 32 := 0#32
  let c1_i32_105 : BitVec 32 := 1#32
  let arg11 : BitVec 32 := Scf.iv c0_i32_103 c1_i32_105 k2_t13
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk12 (v220 : IVec S16 32) : Prop :=
  (∀ a x, ((![v220] : Fin 1 → IVec S16 32) a x).toNat < S65536.size a)
theorem k2_idx12_inb : ∀ (v220 : IVec S16 32) (k2_hw12 : k2_chk12 v220), ∀ a x, ((![v220] : Fin 1 → IVec S16 32) a x).toNat < S65536.size a := fun v220 k2_hw12 => k2_hw12
@[reducible] def k2_t14_loop : Scf.Loop 32 :=
  let c0_i32_112 : BitVec 32 := 0#32
  let c1024_i32_113 : BitVec 32 := 1024#32
  let v90 : BitVec 32 := Scalar.addi c0_i32_112 c1024_i32_113
  let c1_i32_114 : BitVec 32 := 1#32
  ⟨c0_i32_112, v90, c1_i32_114⟩
def k2_off16 (k2_t14 : Fin k2_t14_loop.trips) : Fin 2 → Nat :=
  let c0_i32_276 : BitVec 32 := 0#32
  let c0_i32_112 : BitVec 32 := 0#32
  let c1_i32_114 : BitVec 32 := 1#32
  let arg11 : BitVec 32 := Scf.iv c0_i32_112 c1_i32_114 k2_t14
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk13 (v220 : IVec S16 32) : Prop :=
  (∀ a x, ((![v220] : Fin 1 → IVec S16 32) a x).toNat < S65536.size a)
theorem k2_idx13_inb : ∀ (v220 : IVec S16 32) (k2_hw13 : k2_chk13 v220), ∀ a x, ((![v220] : Fin 1 → IVec S16 32) a x).toNat < S65536.size a := fun v220 k2_hw13 => k2_hw13
@[reducible] def k2_t15_loop : Scf.Loop 32 :=
  let c0_i32_120 : BitVec 32 := 0#32
  let c1024_i32_121 : BitVec 32 := 1024#32
  let v96 : BitVec 32 := Scalar.addi c0_i32_120 c1024_i32_121
  let c1_i32_122 : BitVec 32 := 1#32
  ⟨c0_i32_120, v96, c1_i32_122⟩
def k2_off17 (k2_t15 : Fin k2_t15_loop.trips) : Fin 2 → Nat :=
  let c0_i32_276 : BitVec 32 := 0#32
  let c0_i32_120 : BitVec 32 := 0#32
  let c1_i32_122 : BitVec 32 := 1#32
  let arg11 : BitVec 32 := Scf.iv c0_i32_120 c1_i32_122 k2_t15
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk14 (v220 : IVec S16 32) : Prop :=
  (∀ a x, ((![v220] : Fin 1 → IVec S16 32) a x).toNat < S65536.size a)
theorem k2_idx14_inb : ∀ (v220 : IVec S16 32) (k2_hw14 : k2_chk14 v220), ∀ a x, ((![v220] : Fin 1 → IVec S16 32) a x).toNat < S65536.size a := fun v220 k2_hw14 => k2_hw14
@[reducible] def k2_t16_loop : Scf.Loop 32 :=
  let c0_i32_129 : BitVec 32 := 0#32
  let c1024_i32_130 : BitVec 32 := 1024#32
  let v102 : BitVec 32 := Scalar.addi c0_i32_129 c1024_i32_130
  let c1_i32_131 : BitVec 32 := 1#32
  ⟨c0_i32_129, v102, c1_i32_131⟩
def k2_off18 (k2_t16 : Fin k2_t16_loop.trips) : Fin 2 → Nat :=
  let c0_i32_276 : BitVec 32 := 0#32
  let c0_i32_129 : BitVec 32 := 0#32
  let c1_i32_131 : BitVec 32 := 1#32
  let arg11 : BitVec 32 := Scf.iv c0_i32_129 c1_i32_131 k2_t16
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk15 (v220 : IVec S16 32) : Prop :=
  (∀ a x, ((![v220] : Fin 1 → IVec S16 32) a x).toNat < S65536.size a)
theorem k2_idx15_inb : ∀ (v220 : IVec S16 32) (k2_hw15 : k2_chk15 v220), ∀ a x, ((![v220] : Fin 1 → IVec S16 32) a x).toNat < S65536.size a := fun v220 k2_hw15 => k2_hw15
@[reducible] def k2_t17_loop : Scf.Loop 32 :=
  let c0_i32_137 : BitVec 32 := 0#32
  let c1024_i32_138 : BitVec 32 := 1024#32
  let v108 : BitVec 32 := Scalar.addi c0_i32_137 c1024_i32_138
  let c1_i32_139 : BitVec 32 := 1#32
  ⟨c0_i32_137, v108, c1_i32_139⟩
def k2_off19 (k2_t17 : Fin k2_t17_loop.trips) : Fin 2 → Nat :=
  let c0_i32_276 : BitVec 32 := 0#32
  let c0_i32_137 : BitVec 32 := 0#32
  let c1_i32_139 : BitVec 32 := 1#32
  let arg11 : BitVec 32 := Scf.iv c0_i32_137 c1_i32_139 k2_t17
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk16 (v220 : IVec S16 32) : Prop :=
  (∀ a x, ((![v220] : Fin 1 → IVec S16 32) a x).toNat < S65536.size a)
theorem k2_idx16_inb : ∀ (v220 : IVec S16 32) (k2_hw16 : k2_chk16 v220), ∀ a x, ((![v220] : Fin 1 → IVec S16 32) a x).toNat < S65536.size a := fun v220 k2_hw16 => k2_hw16
@[reducible] def k2_t18_loop : Scf.Loop 32 :=
  let c0_i32_146 : BitVec 32 := 0#32
  let c1024_i32_147 : BitVec 32 := 1024#32
  let v114 : BitVec 32 := Scalar.addi c0_i32_146 c1024_i32_147
  let c1_i32_148 : BitVec 32 := 1#32
  ⟨c0_i32_146, v114, c1_i32_148⟩
def k2_off20 (k2_t18 : Fin k2_t18_loop.trips) : Fin 2 → Nat :=
  let c0_i32_276 : BitVec 32 := 0#32
  let c0_i32_146 : BitVec 32 := 0#32
  let c1_i32_148 : BitVec 32 := 1#32
  let arg11 : BitVec 32 := Scf.iv c0_i32_146 c1_i32_148 k2_t18
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk17 (v220 : IVec S16 32) : Prop :=
  (∀ a x, ((![v220] : Fin 1 → IVec S16 32) a x).toNat < S65536.size a)
theorem k2_idx17_inb : ∀ (v220 : IVec S16 32) (k2_hw17 : k2_chk17 v220), ∀ a x, ((![v220] : Fin 1 → IVec S16 32) a x).toNat < S65536.size a := fun v220 k2_hw17 => k2_hw17
@[reducible] def k2_t19_loop : Scf.Loop 32 :=
  let c0_i32_154 : BitVec 32 := 0#32
  let c1024_i32_155 : BitVec 32 := 1024#32
  let v120 : BitVec 32 := Scalar.addi c0_i32_154 c1024_i32_155
  let c1_i32_156 : BitVec 32 := 1#32
  ⟨c0_i32_154, v120, c1_i32_156⟩
def k2_off21 (k2_t19 : Fin k2_t19_loop.trips) : Fin 2 → Nat :=
  let c0_i32_276 : BitVec 32 := 0#32
  let c0_i32_154 : BitVec 32 := 0#32
  let c1_i32_156 : BitVec 32 := 1#32
  let arg11 : BitVec 32 := Scf.iv c0_i32_154 c1_i32_156 k2_t19
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk18 (v220 : IVec S16 32) : Prop :=
  (∀ a x, ((![v220] : Fin 1 → IVec S16 32) a x).toNat < S65536.size a)
theorem k2_idx18_inb : ∀ (v220 : IVec S16 32) (k2_hw18 : k2_chk18 v220), ∀ a x, ((![v220] : Fin 1 → IVec S16 32) a x).toNat < S65536.size a := fun v220 k2_hw18 => k2_hw18
@[reducible] def k2_t20_loop : Scf.Loop 32 :=
  let c0_i32_163 : BitVec 32 := 0#32
  let c1024_i32_164 : BitVec 32 := 1024#32
  let v126 : BitVec 32 := Scalar.addi c0_i32_163 c1024_i32_164
  let c1_i32_165 : BitVec 32 := 1#32
  ⟨c0_i32_163, v126, c1_i32_165⟩
def k2_off22 (k2_t20 : Fin k2_t20_loop.trips) : Fin 2 → Nat :=
  let c0_i32_276 : BitVec 32 := 0#32
  let c0_i32_163 : BitVec 32 := 0#32
  let c1_i32_165 : BitVec 32 := 1#32
  let arg11 : BitVec 32 := Scf.iv c0_i32_163 c1_i32_165 k2_t20
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk19 (v220 : IVec S16 32) : Prop :=
  (∀ a x, ((![v220] : Fin 1 → IVec S16 32) a x).toNat < S65536.size a)
theorem k2_idx19_inb : ∀ (v220 : IVec S16 32) (k2_hw19 : k2_chk19 v220), ∀ a x, ((![v220] : Fin 1 → IVec S16 32) a x).toNat < S65536.size a := fun v220 k2_hw19 => k2_hw19
@[reducible] def k2_t21_loop : Scf.Loop 32 :=
  let c0_i32_171 : BitVec 32 := 0#32
  let c1024_i32_172 : BitVec 32 := 1024#32
  let v132 : BitVec 32 := Scalar.addi c0_i32_171 c1024_i32_172
  let c1_i32_173 : BitVec 32 := 1#32
  ⟨c0_i32_171, v132, c1_i32_173⟩
def k2_off23 (k2_t21 : Fin k2_t21_loop.trips) : Fin 2 → Nat :=
  let c0_i32_276 : BitVec 32 := 0#32
  let c0_i32_171 : BitVec 32 := 0#32
  let c1_i32_173 : BitVec 32 := 1#32
  let arg11 : BitVec 32 := Scf.iv c0_i32_171 c1_i32_173 k2_t21
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk20 (v220 : IVec S16 32) : Prop :=
  (∀ a x, ((![v220] : Fin 1 → IVec S16 32) a x).toNat < S65536.size a)
theorem k2_idx20_inb : ∀ (v220 : IVec S16 32) (k2_hw20 : k2_chk20 v220), ∀ a x, ((![v220] : Fin 1 → IVec S16 32) a x).toNat < S65536.size a := fun v220 k2_hw20 => k2_hw20
@[reducible] def k2_t22_loop : Scf.Loop 32 :=
  let c0_i32_180 : BitVec 32 := 0#32
  let c1024_i32_181 : BitVec 32 := 1024#32
  let v138 : BitVec 32 := Scalar.addi c0_i32_180 c1024_i32_181
  let c1_i32_182 : BitVec 32 := 1#32
  ⟨c0_i32_180, v138, c1_i32_182⟩
def k2_off24 (k2_t22 : Fin k2_t22_loop.trips) : Fin 2 → Nat :=
  let c0_i32_276 : BitVec 32 := 0#32
  let c0_i32_180 : BitVec 32 := 0#32
  let c1_i32_182 : BitVec 32 := 1#32
  let arg11 : BitVec 32 := Scf.iv c0_i32_180 c1_i32_182 k2_t22
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk21 (v220 : IVec S16 32) : Prop :=
  (∀ a x, ((![v220] : Fin 1 → IVec S16 32) a x).toNat < S65536.size a)
theorem k2_idx21_inb : ∀ (v220 : IVec S16 32) (k2_hw21 : k2_chk21 v220), ∀ a x, ((![v220] : Fin 1 → IVec S16 32) a x).toNat < S65536.size a := fun v220 k2_hw21 => k2_hw21
@[reducible] def k2_t23_loop : Scf.Loop 32 :=
  let c0_i32_188 : BitVec 32 := 0#32
  let c1024_i32_189 : BitVec 32 := 1024#32
  let v144 : BitVec 32 := Scalar.addi c0_i32_188 c1024_i32_189
  let c1_i32_190 : BitVec 32 := 1#32
  ⟨c0_i32_188, v144, c1_i32_190⟩
def k2_off25 (k2_t23 : Fin k2_t23_loop.trips) : Fin 2 → Nat :=
  let c0_i32_276 : BitVec 32 := 0#32
  let c0_i32_188 : BitVec 32 := 0#32
  let c1_i32_190 : BitVec 32 := 1#32
  let arg11 : BitVec 32 := Scf.iv c0_i32_188 c1_i32_190 k2_t23
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk22 (v220 : IVec S16 32) : Prop :=
  (∀ a x, ((![v220] : Fin 1 → IVec S16 32) a x).toNat < S65536.size a)
theorem k2_idx22_inb : ∀ (v220 : IVec S16 32) (k2_hw22 : k2_chk22 v220), ∀ a x, ((![v220] : Fin 1 → IVec S16 32) a x).toNat < S65536.size a := fun v220 k2_hw22 => k2_hw22
@[reducible] def k2_t24_loop : Scf.Loop 32 :=
  let c0_i32_197 : BitVec 32 := 0#32
  let c1024_i32_198 : BitVec 32 := 1024#32
  let v150 : BitVec 32 := Scalar.addi c0_i32_197 c1024_i32_198
  let c1_i32_199 : BitVec 32 := 1#32
  ⟨c0_i32_197, v150, c1_i32_199⟩
def k2_off26 (k2_t24 : Fin k2_t24_loop.trips) : Fin 2 → Nat :=
  let c0_i32_276 : BitVec 32 := 0#32
  let c0_i32_197 : BitVec 32 := 0#32
  let c1_i32_199 : BitVec 32 := 1#32
  let arg11 : BitVec 32 := Scf.iv c0_i32_197 c1_i32_199 k2_t24
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk23 (v220 : IVec S16 32) : Prop :=
  (∀ a x, ((![v220] : Fin 1 → IVec S16 32) a x).toNat < S65536.size a)
theorem k2_idx23_inb : ∀ (v220 : IVec S16 32) (k2_hw23 : k2_chk23 v220), ∀ a x, ((![v220] : Fin 1 → IVec S16 32) a x).toNat < S65536.size a := fun v220 k2_hw23 => k2_hw23
@[reducible] def k2_t25_loop : Scf.Loop 32 :=
  let c0_i32_205 : BitVec 32 := 0#32
  let c1024_i32_206 : BitVec 32 := 1024#32
  let v156 : BitVec 32 := Scalar.addi c0_i32_205 c1024_i32_206
  let c1_i32_207 : BitVec 32 := 1#32
  ⟨c0_i32_205, v156, c1_i32_207⟩
def k2_off27 (k2_t25 : Fin k2_t25_loop.trips) : Fin 2 → Nat :=
  let c0_i32_276 : BitVec 32 := 0#32
  let c0_i32_205 : BitVec 32 := 0#32
  let c1_i32_207 : BitVec 32 := 1#32
  let arg11 : BitVec 32 := Scf.iv c0_i32_205 c1_i32_207 k2_t25
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk24 (v220 : IVec S16 32) : Prop :=
  (∀ a x, ((![v220] : Fin 1 → IVec S16 32) a x).toNat < S65536.size a)
theorem k2_idx24_inb : ∀ (v220 : IVec S16 32) (k2_hw24 : k2_chk24 v220), ∀ a x, ((![v220] : Fin 1 → IVec S16 32) a x).toNat < S65536.size a := fun v220 k2_hw24 => k2_hw24
@[reducible] def k2_t26_loop : Scf.Loop 32 :=
  let c0_i32_214 : BitVec 32 := 0#32
  let c1024_i32_215 : BitVec 32 := 1024#32
  let v162 : BitVec 32 := Scalar.addi c0_i32_214 c1024_i32_215
  let c1_i32_216 : BitVec 32 := 1#32
  ⟨c0_i32_214, v162, c1_i32_216⟩
def k2_off28 (k2_t26 : Fin k2_t26_loop.trips) : Fin 2 → Nat :=
  let c0_i32_276 : BitVec 32 := 0#32
  let c0_i32_214 : BitVec 32 := 0#32
  let c1_i32_216 : BitVec 32 := 1#32
  let arg11 : BitVec 32 := Scf.iv c0_i32_214 c1_i32_216 k2_t26
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk25 (v220 : IVec S16 32) : Prop :=
  (∀ a x, ((![v220] : Fin 1 → IVec S16 32) a x).toNat < S65536.size a)
theorem k2_idx25_inb : ∀ (v220 : IVec S16 32) (k2_hw25 : k2_chk25 v220), ∀ a x, ((![v220] : Fin 1 → IVec S16 32) a x).toNat < S65536.size a := fun v220 k2_hw25 => k2_hw25
@[reducible] def k2_t27_loop : Scf.Loop 32 :=
  let c0_i32_222 : BitVec 32 := 0#32
  let c1024_i32_223 : BitVec 32 := 1024#32
  let v168 : BitVec 32 := Scalar.addi c0_i32_222 c1024_i32_223
  let c1_i32_224 : BitVec 32 := 1#32
  ⟨c0_i32_222, v168, c1_i32_224⟩
def k2_off29 (k2_t27 : Fin k2_t27_loop.trips) : Fin 2 → Nat :=
  let c0_i32_276 : BitVec 32 := 0#32
  let c0_i32_222 : BitVec 32 := 0#32
  let c1_i32_224 : BitVec 32 := 1#32
  let arg11 : BitVec 32 := Scf.iv c0_i32_222 c1_i32_224 k2_t27
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk26 (v220 : IVec S16 32) : Prop :=
  (∀ a x, ((![v220] : Fin 1 → IVec S16 32) a x).toNat < S65536.size a)
theorem k2_idx26_inb : ∀ (v220 : IVec S16 32) (k2_hw26 : k2_chk26 v220), ∀ a x, ((![v220] : Fin 1 → IVec S16 32) a x).toNat < S65536.size a := fun v220 k2_hw26 => k2_hw26
@[reducible] def k2_t28_loop : Scf.Loop 32 :=
  let c0_i32_231 : BitVec 32 := 0#32
  let c1024_i32_232 : BitVec 32 := 1024#32
  let v174 : BitVec 32 := Scalar.addi c0_i32_231 c1024_i32_232
  let c1_i32_233 : BitVec 32 := 1#32
  ⟨c0_i32_231, v174, c1_i32_233⟩
def k2_off30 (k2_t28 : Fin k2_t28_loop.trips) : Fin 2 → Nat :=
  let c0_i32_276 : BitVec 32 := 0#32
  let c0_i32_231 : BitVec 32 := 0#32
  let c1_i32_233 : BitVec 32 := 1#32
  let arg11 : BitVec 32 := Scf.iv c0_i32_231 c1_i32_233 k2_t28
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk27 (v220 : IVec S16 32) : Prop :=
  (∀ a x, ((![v220] : Fin 1 → IVec S16 32) a x).toNat < S65536.size a)
theorem k2_idx27_inb : ∀ (v220 : IVec S16 32) (k2_hw27 : k2_chk27 v220), ∀ a x, ((![v220] : Fin 1 → IVec S16 32) a x).toNat < S65536.size a := fun v220 k2_hw27 => k2_hw27
@[reducible] def k2_t29_loop : Scf.Loop 32 :=
  let c0_i32_239 : BitVec 32 := 0#32
  let c1024_i32_240 : BitVec 32 := 1024#32
  let v180 : BitVec 32 := Scalar.addi c0_i32_239 c1024_i32_240
  let c1_i32_241 : BitVec 32 := 1#32
  ⟨c0_i32_239, v180, c1_i32_241⟩
def k2_off31 (k2_t29 : Fin k2_t29_loop.trips) : Fin 2 → Nat :=
  let c0_i32_276 : BitVec 32 := 0#32
  let c0_i32_239 : BitVec 32 := 0#32
  let c1_i32_241 : BitVec 32 := 1#32
  let arg11 : BitVec 32 := Scf.iv c0_i32_239 c1_i32_241 k2_t29
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk28 (v220 : IVec S16 32) : Prop :=
  (∀ a x, ((![v220] : Fin 1 → IVec S16 32) a x).toNat < S65536.size a)
theorem k2_idx28_inb : ∀ (v220 : IVec S16 32) (k2_hw28 : k2_chk28 v220), ∀ a x, ((![v220] : Fin 1 → IVec S16 32) a x).toNat < S65536.size a := fun v220 k2_hw28 => k2_hw28
@[reducible] def k2_t30_loop : Scf.Loop 32 :=
  let c0_i32_248 : BitVec 32 := 0#32
  let c1024_i32_249 : BitVec 32 := 1024#32
  let v186 : BitVec 32 := Scalar.addi c0_i32_248 c1024_i32_249
  let c1_i32_250 : BitVec 32 := 1#32
  ⟨c0_i32_248, v186, c1_i32_250⟩
def k2_off32 (k2_t30 : Fin k2_t30_loop.trips) : Fin 2 → Nat :=
  let c0_i32_276 : BitVec 32 := 0#32
  let c0_i32_248 : BitVec 32 := 0#32
  let c1_i32_250 : BitVec 32 := 1#32
  let arg11 : BitVec 32 := Scf.iv c0_i32_248 c1_i32_250 k2_t30
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk29 (v220 : IVec S16 32) : Prop :=
  (∀ a x, ((![v220] : Fin 1 → IVec S16 32) a x).toNat < S65536.size a)
theorem k2_idx29_inb : ∀ (v220 : IVec S16 32) (k2_hw29 : k2_chk29 v220), ∀ a x, ((![v220] : Fin 1 → IVec S16 32) a x).toNat < S65536.size a := fun v220 k2_hw29 => k2_hw29
@[reducible] def k2_t31_loop : Scf.Loop 32 :=
  let c0_i32_256 : BitVec 32 := 0#32
  let c1024_i32_257 : BitVec 32 := 1024#32
  let v192 : BitVec 32 := Scalar.addi c0_i32_256 c1024_i32_257
  let c1_i32_258 : BitVec 32 := 1#32
  ⟨c0_i32_256, v192, c1_i32_258⟩
def k2_off33 (k2_t31 : Fin k2_t31_loop.trips) : Fin 2 → Nat :=
  let c0_i32_276 : BitVec 32 := 0#32
  let c0_i32_256 : BitVec 32 := 0#32
  let c1_i32_258 : BitVec 32 := 1#32
  let arg11 : BitVec 32 := Scf.iv c0_i32_256 c1_i32_258 k2_t31
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk30 (v220 : IVec S16 32) : Prop :=
  (∀ a x, ((![v220] : Fin 1 → IVec S16 32) a x).toNat < S65536.size a)
theorem k2_idx30_inb : ∀ (v220 : IVec S16 32) (k2_hw30 : k2_chk30 v220), ∀ a x, ((![v220] : Fin 1 → IVec S16 32) a x).toNat < S65536.size a := fun v220 k2_hw30 => k2_hw30
@[reducible] def k2_t32_loop : Scf.Loop 32 :=
  let c0_i32_265 : BitVec 32 := 0#32
  let c1024_i32_266 : BitVec 32 := 1024#32
  let v198 : BitVec 32 := Scalar.addi c0_i32_265 c1024_i32_266
  let c1_i32_267 : BitVec 32 := 1#32
  ⟨c0_i32_265, v198, c1_i32_267⟩
def k2_off34 (k2_t32 : Fin k2_t32_loop.trips) : Fin 2 → Nat :=
  let c0_i32_276 : BitVec 32 := 0#32
  let c0_i32_265 : BitVec 32 := 0#32
  let c1_i32_267 : BitVec 32 := 1#32
  let arg11 : BitVec 32 := Scf.iv c0_i32_265 c1_i32_267 k2_t32
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk31 (v220 : IVec S16 32) : Prop :=
  (∀ a x, ((![v220] : Fin 1 → IVec S16 32) a x).toNat < S65536.size a)
theorem k2_idx31_inb : ∀ (v220 : IVec S16 32) (k2_hw31 : k2_chk31 v220), ∀ a x, ((![v220] : Fin 1 → IVec S16 32) a x).toNat < S65536.size a := fun v220 k2_hw31 => k2_hw31
@[reducible] def k2_t33_loop : Scf.Loop 32 :=
  let c0_i32_271 : BitVec 32 := 0#32
  let c1024_i32_272 : BitVec 32 := 1024#32
  let v201 : BitVec 32 := Scalar.addi c0_i32_271 c1024_i32_272
  let c1_i32_273 : BitVec 32 := 1#32
  ⟨c0_i32_271, v201, c1_i32_273⟩
def k2_off35 (k2_t33 : Fin k2_t33_loop.trips) : Fin 2 → Nat :=
  let c0_i32_276 : BitVec 32 := 0#32
  let c0_i32_271 : BitVec 32 := 0#32
  let c1_i32_273 : BitVec 32 := 1#32
  let arg11 : BitVec 32 := Scf.iv c0_i32_271 c1_i32_273 k2_t33
  let c1_i32_275 : BitVec 32 := 1#32
  let v203 : BitVec 32 := Scalar.muli arg11 c1_i32_275
  let v204 : BitVec 32 := Scalar.addi c0_i32_276 v203
  let c7_i32 : BitVec 32 := 7#32
  let v205 : BitVec 32 := Scalar.shrsi v204 c7_i32
  let v208 : Index := Scalar.indexCast v205
  let c127_i32 : BitVec 32 := 127#32
  let v206 : BitVec 32 := Scalar.andi v204 c127_i32
  let c16_i32_277 : BitVec 32 := 16#32
  let v207 : BitVec 32 := Scalar.muli v206 c16_i32_277
  let v209 : Index := Scalar.indexCast v207
  ![v208.toNat, v209.toNat]

def k2_chk32 (v220 : IVec S16 32) : Prop :=
  (∀ a x, ((![v220] : Fin 1 → IVec S16 32) a x).toNat < S65536.size a)
theorem k2_idx32_inb : ∀ (v220 : IVec S16 32) (k2_hw32 : k2_chk32 v220), ∀ a x, ((![v220] : Fin 1 → IVec S16 32) a x).toNat < S65536.size a := fun v220 k2_hw32 => k2_hw32
def k2_off36 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v202 : BitVec 32 := Scalar.muli v1 c65536_i32
  ![v202.toNat]
abbrev grid3 : Pipeline.Grid := .none

abbrev stage3_0 : Fin 1 → Memref sig .tc .vmem S32x512x128 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x128 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S8x128 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .smem S1x1 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S128x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x4096 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x4096 : Shape := ⟨2, ![4096, 4096]⟩
abbrev S16777216 : Shape := ⟨1, ![16777216]⟩
abbrev S1 : Shape := ⟨1, ![1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S16777216, .f32⟩
  | .hbm, ⟨4, _⟩ => ⟨S16777216, .f32⟩
  | .hbm, ⟨5, _⟩ => ⟨S1, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Restate.lean ====
/-
  The SparseCore bodies of the two histogram passes, written as what they are: a table cleared, thirty-two blocks of
  words fetched into two buffers in turn with one fetch in flight ahead of the block being entered, the table copied
  out. The printed bodies are these (`body0_eq`, `body2_eq`).
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

noncomputable section

namespace Cert.Proof.Restate

open Cert.KernelIdeal Cert.KernelIdeal.Gen
open Idealize.ShloMosaic Idealize.SL.Sem

variable {F : FTy → Type} [FloatOps F]

/-- The programs of vector subcore `(a, b)`. -/
abbrev VP (a : Fin τ.nSC) (b : Fin τ.nSub) (α : Type) : Type 1 := Prog (TpuEff nD τ sig (Elt F) Λ₀ (.scVector a b)) α

variable {a : Fin τ.nSC} {b : Fin τ.nSub}

/-- What a pass computes of sixteen words read: their indices, their mask, and that the indices are in the table. -/
structure Enter where
  idx : Vec F S1x16 .i32 → IVec S16 32
  mask : Vec F S1x16 .i32 → IVec S16 1

/-- One trip of the clearing loop. -/
def clearBody (hist : Memref sig .scVector .vmem S65536 .i32) (zero : IVec S16 32) :
    Fin k0_t1_loop.trips → Unit → VP (F := F) a b Unit :=
  fun t _ => do
    let _ : Vec F S16 .i32 ← Prog.lift (.load hist (Rect.unit (s := S65536) (k0_off1 t) S16.size (k0_off1_inb t)).toLoadRect (View.loadsAt_vmem h_S16))
    Prog.lift (.store hist (Rect.unit (s := S65536) (k0_off1 t) S16.size (k0_off1_inb t)) zero Finset.univ (View.stores_vmem_bits_univ h_S16 rfl) (.inl rfl))
    pure ⟨⟩

/-- One trip of the loop that enters a block: sixteen words, entered at their indices. -/
def enterBody (P : Enter (F := F)) (one : IVec S16 32) (hist : Memref sig .scVector .vmem S65536 .i32) (buf : Memref sig .scVector .vmem S8x2048 .i32) :
    Fin k0_t2_loop.trips → Unit → VP (F := F) a b Unit :=
  fun t _ => do
    let ld : Vec F S1x16 .i32 ← Prog.lift (.load buf (Rect.unit (s := S8x2048) (k0_off4 t) S1x16.size (k0_off4_inb t)).toLoadRect (View.loadsAt_vmem h_S1x16))
    have hw : k0_chk1 (P.idx ld) := (← Prog.lift (TpuEff.assume (k0_chk1 (P.idx ld)) (k0_chk1.dec (P.idx ld)))).down
    SparseCore.vectorStoreIdx hist ![P.idx ld] one (P.mask ld) true (k0_idx1_inb (P.idx ld) hw) (View.stores_vmem_bits_univ h_S65536 rfl)
    pure ⟨⟩

/-- Block `2r` of tile `i`'s rows in the scores, -/
def srcA (i : grid0.Coords) (src : Memref sig .scVector .hbm S4096x4096 .i32) (r : Fin 16) : Memref sig .scVector .hbm S8x2048 .i32 :=
  src.slice (Rect.unit (s := S4096x4096) (k0_off2 i (BitVec.ofNat 32 (8 * r.val))) S8x2048.size (k0_off2_inb i r)) (fun _ => rfl)

/-- and block `2r + 1`. -/
def srcB (i : grid0.Coords) (src : Memref sig .scVector .hbm S4096x4096 .i32) (r : Fin 16) : Memref sig .scVector .hbm S8x2048 .i32 :=
  src.slice (Rect.unit (s := S4096x4096) (k0_off3 i (BitVec.ofNat 32 (8 * r.val))) S8x2048.size (k0_off3_inb i r)) (fun _ => rfl)

/-- Start fetching a block into a buffer. -/
def fetch (src : Memref sig .scVector .hbm S8x2048 .i32) (buf : Memref sig .scVector .vmem S8x2048 .i32) (hbuf : buf.IsWhole) (sem : DmaSems sig S_) :
    VP (F := F) a b PUnit :=
  Prog.lift (.enqueueDma src (.here buf) (.dma sem.sem) (View.wordExact_bits rfl) hbuf.wordExact ⟨Or.inl rfl, trivial⟩)

/-- Wait for it. -/
def await (src : Memref sig .scVector .hbm S8x2048 .i32) (buf : Memref sig .scVector .vmem S8x2048 .i32) (hbuf : buf.IsWhole) (sem : DmaSems sig S_) :
    VP (F := F) a b PUnit :=
  Prog.lift (.waitDma2 sem.sem src buf (View.wordExact_bits rfl) hbuf.wordExact)

/-- Enter the block a buffer holds. -/
def enter (P : Enter (F := F)) (one : IVec S16 32) (hist : Memref sig .scVector .vmem S65536 .i32) (buf : Memref sig .scVector .vmem S8x2048 .i32) :
    VP (F := F) a b Unit :=
  Scf.Loop.for k0_t2_loop k0_t2_ok ⟨⟩ (enterBody P one hist buf)

section
variable (i : grid0.Coords) (P : Enter (F := F)) (one : IVec S16 32) (src : Memref sig .scVector .hbm S4096x4096 .i32)
  (bufA : Memref sig .scVector .vmem S8x2048 .i32) (hA : bufA.IsWhole) (bufB : Memref sig .scVector .vmem S8x2048 .i32) (hB : bufB.IsWhole)
  (hist : Memref sig .scVector .vmem S65536 .i32) (semA semB : DmaSems sig S_)

/-- Blocks `2r` and `2r + 1` entered, block `2r` being on its way; block `2(r + 1)` is then on its way. -/
def pair (r r' : Fin 16) : VP (F := F) a b Unit := do
  fetch (srcB i src r) bufB hB semB
  await (srcA i src r) bufA hA semA
  enter P one hist bufA
  fetch (srcA i src r') bufA hA semA
  await (srcB i src r) bufB hB semB
  enter P one hist bufB

/-- The first `n` pairs. -/
def pairs : (n : ℕ) → n ≤ 15 → VP (F := F) a b Unit
  | 0, _ => pure ⟨⟩
  | n + 1, h => pairs n (by omega) >>= fun _ => pair i P one src bufA hA bufB hB hist semA semB ⟨n, by omega⟩ ⟨n + 1, by omega⟩

/-- The last pair. -/
def lastPair : VP (F := F) a b Unit := do
  fetch (srcB i src 15) bufB hB semB
  await (srcA i src 15) bufA hA semA
  enter P one hist bufA
  await (srcB i src 15) bufB hB semB
  enter P one hist bufB

/-- All thirty-two blocks entered. -/
def blocks : VP (F := F) a b Unit := do
  fetch (srcA i src 0) bufA hA semA
  pairs i P one src bufA hA bufB hB hist semA semB 15 (by omega)
  lastPair i P one src bufA hA bufB hB hist semA semB

end

/-- The table copied out to the tile's block of the output. -/
def copyOut (i : grid0.Coords) (hist : Memref sig .scVector .vmem S65536 .i32) (hh : hist.IsWhole) (out : Memref sig .scVector .hbm S2097152 .i32) (sem : DmaSems sig S_) :
    VP (F := F) a b PUnit := do
  Prog.lift (.enqueueDma hist (.here (out.slice (Rect.unit (s := S2097152) (k0_off36 i) S65536.size (k0_off36_inb i)) (fun _ => rfl))) (.dma sem.sem) hh.wordExact (View.wordExact_bits rfl) ⟨Or.inl rfl, trivial⟩)
  Prog.lift (.waitDma2 sem.sem hist (out.slice (Rect.unit (s := S2097152) (k0_off36 i) S65536.size (k0_off36_inb i)) (fun _ => rfl)) hh.wordExact (View.wordExact_bits rfl))

/-- The first pass's indices: the high halves of the words' keys, all entered. -/
def enter0 : Enter (F := F) := ⟨k0_pay3, fun _ _ => 1#1⟩

/-- The first pass's body. -/
def body0 (i : grid0.Coords) (arg2 : Memref sig .scVector .hbm S4096x4096 .i32) (arg3 : Memref sig .scVector .hbm S2097152 .i32)
    (arg4 : Memref sig .scVector .vmem S8x2048 .i32) (harg4 : arg4.IsWhole) (arg5 : Memref sig .scVector .vmem S8x2048 .i32) (harg5 : arg5.IsWhole)
    (arg6 : Memref sig .scVector .vmem S65536 .i32) (harg6 : arg6.IsWhole) (arg7 arg8 v202_r0 : DmaSems sig S_) : VP (F := F) a b PUnit := do
  Scf.Loop.for k0_t1_loop k0_t1_ok ⟨⟩ (clearBody arg6 k0_pay1)
  blocks i enter0 k0_pay2 arg2 arg4 harg4 arg5 harg5 arg6 arg7 arg8
  copyOut i arg6 harg6 arg3 v202_r0

set_option maxHeartbeats 4000000 in
/-- The printed body of the first pass is `body0`. -/
theorem body0_eq (i : grid0.Coords) (arg2 : Memref sig .scVector .hbm S4096x4096 .i32) (harg2 : arg2.IsWhole) (arg3 : Memref sig .scVector .hbm S2097152 .i32) (harg3 : arg3.IsWhole) (arg4 : Memref sig .scVector .vmem S8x2048 .i32) (harg4 : arg4.IsWhole) (arg5 : Memref sig .scVector .vmem S8x2048 .i32) (harg5 : arg5.IsWhole) (arg6 : Memref sig .scVector .vmem S65536 .i32) (harg6 : arg6.IsWhole) (arg7 arg8 v202_r0 : DmaSems sig S_) :
    cc0__hist_body (F := F) i arg2 harg2 arg3 harg3 arg4 harg4 arg5 harg5 arg6 harg6 arg7 arg8 v202_r0
      = body0 i arg2 arg3 arg4 harg4 arg5 harg5 arg6 harg6 arg7 arg8 v202_r0 := by
  rw [cc0__hist_body_eq_skeleton]
  unfold cc0__hist_body_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [body0, blocks, pairs, pair, lastPair, enter, fetch, await, copyOut, Prog.lift, bind_assoc, pure_bind, Prog.bind_op, Prog.bind_ret, Prog.pure_eq_ret]
  rfl

/-- Row 0 of the state. -/
def stateRow (st : Memref sig .scVector .hbm S8x128 .i32) : Memref sig .scVector .hbm S128 .i32 :=
  (st.slice (Rect.unit (s := S8x128) ![0, 0] S1x128.size inb_S8x128_S1x128_0_0) (fun _ => rfl)).squeeze S128 squeezes_S1x128_S128

/-- Row 0 of the state copied into tile memory, its first sixteen words read. -/
def readState (st : Memref sig .scVector .hbm S8x128 .i32) (row : Memref sig .scVector .vmem S128 .i32) (hrow : row.IsWhole) (sem : DmaSems sig S_) :
    VP (F := F) a b (Vec F S16 .i32) := do
  Prog.lift (.enqueueDma (stateRow st) (.here row) (.dma sem.sem) ((View.wordExact_bits rfl).reshape _ _) hrow.wordExact ⟨Or.inl rfl, trivial⟩)
  Prog.lift (.waitDma2 sem.sem (stateRow st) row ((View.wordExact_bits rfl).reshape _ _) hrow.wordExact)
  Prog.lift (.load row (Rect.unit (s := S128) ![0] S16.size inb_S128_S16_0).toLoadRect (View.loadsAt_vmem h_S16))

/-- The second pass's indices: the low halves of the keys, of the words whose key's high half is the prefix. -/
def enter2 (pre : Vec F S16 .i32) : Enter (F := F) := ⟨k2_pay3, k2_pay2 pre⟩

/-- The second pass's body. -/
def body2 (i : grid0.Coords) (arg2 : Memref sig .scVector .hbm S4096x4096 .i32) (arg3 : Memref sig .scVector .hbm S8x128 .i32) (arg4 : Memref sig .scVector .hbm S2097152 .i32)
    (arg5 : Memref sig .scVector .vmem S8x2048 .i32) (harg5 : arg5.IsWhole) (arg6 : Memref sig .scVector .vmem S8x2048 .i32) (harg6 : arg6.IsWhole)
    (arg7 : Memref sig .scVector .vmem S65536 .i32) (harg7 : arg7.IsWhole) (arg8 : Memref sig .scVector .vmem S128 .i32) (harg8 : arg8.IsWhole)
    (arg9 arg10 v203_r0 v203_r1 : DmaSems sig S_) : VP (F := F) a b PUnit := do
  Scf.Loop.for k0_t1_loop k0_t1_ok ⟨⟩ (clearBody arg7 k0_pay1)
  let pre ← readState arg3 arg8 harg8 v203_r0
  blocks i (enter2 pre) k0_pay2 arg2 arg5 harg5 arg6 harg6 arg7 arg9 arg10
  copyOut i arg7 harg7 arg4 v203_r1

set_option maxHeartbeats 4000000 in
/-- The printed body of the second pass is `body2`. -/
theorem body2_eq (i : grid2.Coords) (arg2 : Memref sig .scVector .hbm S4096x4096 .i32) (harg2 : arg2.IsWhole) (arg3 : Memref sig .scVector .hbm S8x128 .i32) (harg3 : arg3.IsWhole) (arg4 : Memref sig .scVector .hbm S2097152 .i32) (harg4 : arg4.IsWhole) (arg5 : Memref sig .scVector .vmem S8x2048 .i32) (harg5 : arg5.IsWhole) (arg6 : Memref sig .scVector .vmem S8x2048 .i32) (harg6 : arg6.IsWhole) (arg7 : Memref sig .scVector .vmem S65536 .i32) (harg7 : arg7.IsWhole) (arg8 : Memref sig .scVector .vmem S128 .i32) (harg8 : arg8.IsWhole) (arg9 arg10 v203_r0 v203_r1 : DmaSems sig S_) :
    cc2__hist_body (F := F) i arg2 harg2 arg3 harg3 arg4 harg4 arg5 harg5 arg6 harg6 arg7 harg7 arg8 harg8 arg9 arg10 v203_r0 v203_r1
      = body2 i arg2 arg3 arg4 arg5 harg5 arg6 harg6 arg7 harg7 arg8 harg8 arg9 arg10 v203_r0 v203_r1 := by
  rw [cc2__hist_body_eq_skeleton]
  unfold cc2__hist_body_skel
  rw [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton, k2_part10_eq_skeleton]
  unfold k2_part1_skel k2_part2_skel k2_part3_skel k2_part4_skel k2_part5_skel k2_part6_skel k2_part7_skel k2_part8_skel k2_part9_skel k2_part10_skel
  simp only [body2, readState, blocks, pairs, pair, lastPair, enter, fetch, await, copyOut, Prog.lift, bind_assoc, pure_bind, Prog.bind_op, Prog.bind_ret, Prog.pure_eq_ret]
  rfl

end Cert.Proof.Restate

end
-- ==== Proof.Hist.lean ====
/-
  Counting with a scatter-add: what `tpu.vector_store_idx {add = true}` of a vector of ones does to a table of words
  (`storeIdx_ones`), and the table that results when a sequence of words has been entered sixteen at a time
  (`tally`, `hist`, `hist_step`). Nothing here speaks of the program.
-/
module

public import Idealize.ShloMosaic.PureOps

@[expose] public section

noncomputable section

namespace Cert.Proof.Hist

open Idealize.ShloMosaic

variable {F : FTy → Type} [FloatOps F]

/-- Whether lane `k` of a masked scatter writes to element `j`: its mask bit is set and its index vectors name `j`. -/
def laneHits {s : Shape} {d : Fin 1 → Nat} (idxs : Fin s.rank → IVec ⟨1, d⟩ 32) (mask : IVec ⟨1, d⟩ 1) (j : s.Idx) (k : Fin (d 0)) : Prop :=
  mask (Shape.ofLane k) = 1 ∧ ∀ a, (j a).val = (idxs a (Shape.ofLane k)).toNat

instance {s : Shape} {d : Fin 1 → Nat} (idxs : Fin s.rank → IVec ⟨1, d⟩ 32) (mask : IVec ⟨1, d⟩ 1) (j : s.Idx) (k : Fin (d 0)) :
    Decidable (laneHits idxs mask j k) := by unfold laneHits; infer_instance

/-- A scatter-add of ones leaves at element `j` what was there plus the number of the lanes that name it. -/
theorem storeIdx_ones {s : Shape} {d : Fin 1 → Nat} (f : Vec F s .i32) (idxs : Fin s.rank → IVec ⟨1, d⟩ 32) (v : IVec ⟨1, d⟩ 32)
    (hv : ∀ x, v x = 1#32) (mask : IVec ⟨1, d⟩ 1) (h : ∀ a x, (idxs a x).toNat < s.size a) (j : s.Idx) :
    storeIdx (F := F) (e := .i32) f idxs v mask true h j
      = (f j : BitVec 32) + BitVec.ofNat 32 (Finset.univ.filter fun k => laneHits idxs mask j k).card := by
  have key : ∀ (l : List (Fin (d 0))) (g : Vec F s .i32),
      (l.foldl (fun (g : Vec F s .i32) k =>
        let x := Shape.ofLane k
        if mask x = 1 then
          let i := idxAt idxs h x
          let y := if true then Elt.idxAdd (F := F) .i32 (g i) (v x) else v x
          fun j => if (∀ a, (j a).val = (i a).val) then y else g j
        else g) g) j = (g j : BitVec 32) + BitVec.ofNat 32 (l.filter fun k => laneHits idxs mask j k).length := by
    intro l
    induction l with
    | nil => intro g; simp
    | cons k l ih =>
      intro g
      rw [List.foldl_cons, ih]
      by_cases hm : mask (Shape.ofLane k) = 1
      · by_cases hj : ∀ a, (j a).val = (idxs a (Shape.ofLane k)).toNat
        · have hl : laneHits idxs mask j k := ⟨hm, hj⟩
          have e : idxAt idxs h (Shape.ofLane k) = j := by
            funext a; exact Fin.ext (hj a).symm
          have e' : ∀ a, (j a).val = (idxAt idxs h (Shape.ofLane k) a).val := hj
          simp only [hm, if_true, e, List.filter_cons, hl, decide_true, List.length_cons, Elt.idxAdd_i32, hv]
          rw [if_pos (fun _ => trivial)]
          rw [BitVec.ofNat_add, BitVec.add_assoc, BitVec.add_comm (1#32)]
        · have hl : ¬ laneHits idxs mask j k := fun hh => hj hh.2
          have e' : ¬ ∀ a, (j a).val = (idxAt idxs h (Shape.ofLane k) a).val := hj
          simp only [hm, if_true, List.filter_cons, hl, decide_false, e', if_false]
          simp
      · have hl : ¬ laneHits idxs mask j k := fun hh => hm hh.1
        simp only [hm, if_false, List.filter_cons, hl, decide_false]
        simp
  unfold storeIdx
  rw [key]
  congr 2

/-- The number of the first `n` words of a sequence that `hit` enters at `b`. -/
def tally (hit : BitVec 32 → ℕ → Bool) (X : ℕ → BitVec 32) (n b : ℕ) : ℕ := ((Finset.range n).filter fun e => hit (X e) b = true).card

/-- The table of the tallies, as words. -/
def hist {s : Shape} (at_ : s.Idx → ℕ) (hit : BitVec 32 → ℕ → Bool) (X : ℕ → BitVec 32) (n : ℕ) : s.Idx → BitVec 32 :=
  fun j => BitVec.ofNat 32 (tally hit X n (at_ j))

theorem tally_zero (hit : BitVec 32 → ℕ → Bool) (X : ℕ → BitVec 32) (b : ℕ) : tally hit X 0 b = 0 := by simp [tally]

/-- Entering `d` further words adds the number of those among them that are entered at `b`. -/
theorem tally_add (hit : BitVec 32 → ℕ → Bool) (X : ℕ → BitVec 32) (n d b : ℕ) :
    tally hit X (n + d) b = tally hit X n b + (Finset.univ.filter fun k : Fin d => hit (X (n + k.val)) b = true).card := by
  unfold tally
  rw [Finset.card_filter, Finset.card_filter, Finset.card_filter, Finset.sum_range_add, ← Fin.sum_univ_eq_sum_range (fun i => if hit (X (n + i)) b = true then 1 else 0) d]

/-- One scatter-add of ones enters the next `d` words in the table: the lanes' indices and mask bits being those of
    the words. -/
theorem hist_step {s : Shape} {d : Fin 1 → Nat} (at_ : s.Idx → ℕ) (hit : BitVec 32 → ℕ → Bool) (X : ℕ → BitVec 32) (n : ℕ)
    (f : Vec F s .i32) (hf : f = hist at_ hit X n) (idxs : Fin s.rank → IVec ⟨1, d⟩ 32) (v : IVec ⟨1, d⟩ 32)
    (hv : ∀ x, v x = 1#32) (mask : IVec ⟨1, d⟩ 1) (h : ∀ a x, (idxs a x).toNat < s.size a)
    (hl : ∀ j k, laneHits idxs mask j k ↔ hit (X (n + k.val)) (at_ j) = true) :
    storeIdx (F := F) (e := .i32) f idxs v mask true h = hist at_ hit X (n + d 0) := by
  funext j
  rw [storeIdx_ones f idxs v hv mask h j, hf]
  show _ = BitVec.ofNat 32 (tally hit X (n + d 0) (at_ j))
  rw [tally_add, BitVec.ofNat_add]
  congr 2
  simp only [hl]

end Cert.Proof.Hist

end
-- ==== Proof.Setup.lean ====
/-
  The program as the SparseCore launch theorem sees it, and the resource algebra of the proof: the handshakes' rounds,
  the TensorCore pipelines' rounds, the local transfers' counters.
-/
module

public import proofs.«01_k».proof.Proof.Restate
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-- The pipelines' rounds: the left factor of the right factor. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP (F := F)).LandsIn (upEmb : UEmb _ 𝕄) := by unfold EP; infer_instance

/-- The launch element is its two rounds' parts. -/
theorem ownU_parts (x : UH) (y : UP) : (ownU ((x, (y, 1)) : UU) : sProp 𝕄) ⊢ iprop(BI.own (EH (F := F) x) ∗ BI.own (EP (F := F) y)) :=
  BI.own_op_elim ((uEmb (nD := nD) (sig := sig) (Ix := HIx 2) (Val := Elt F) (Name := ℕ) (U := UU) (Lvl := ℕ)).toEmb.op_of_mem
    (Prod.mk_mem_op (URA.mem_op_one x) (URA.mem_one_op _)))

/-- Vector subcore `(c, j)` of device `d`, the one a grid point names. -/
abbrev cV (L : grid0.Coords) : Fin τ.nSC := (L 0).castLE hcore0
abbrev jV (L : grid0.Coords) : Fin τ.nSub := (L 1).castLE hsub0

end Cert.Proof.Run

end
-- ==== Proof.Keys.lean ====
/-
  The sort key of a word, what the two passes count of it, and that the printed payloads compute these.
-/
module

public import proofs.«01_k».proof.Proof.Restate
public import proofs.«01_k».proof.Proof.Hist

@[expose] public section

noncomputable section

namespace Cert.Proof.Keys

open Cert.KernelIdeal Cert.KernelIdeal.Gen Cert.Proof.Restate Cert.Proof.Hist
open Idealize.ShloMosaic

/-- The key of a word: the top bit set on a non-negative word, every bit flipped on a negative one. Keys compare as
    unsigned numbers the way the words' floats compare. -/
def key (b : BitVec 32) : BitVec 32 := b ^^^ (b.sshiftRight 31 ||| 2147483648#32)

/-- The first pass counts word `b` at its key's high half; -/
def hit0 (b : BitVec 32) (n : ℕ) : Bool := decide ((key b >>> 16).toNat = n)

/-- the second at its key's low half, if the high half is `p`. -/
def hit2 (p : BitVec 32) (b : BitVec 32) (n : ℕ) : Bool := decide (key b >>> 16 = p) && decide ((key b &&& 65535#32).toNat = n)

variable {F : FTy → Type} [FloatOps F]

theorem pay1_eq : k0_pay1 = fun _ => 0#32 := by
  funext x
  show (_ : BitVec 32) * 0#32 = 0#32
  exact BitVec.mul_zero

theorem pay2_eq (x : S16.Idx) : k0_pay2 x = 1#32 := by
  show k0_pay1 x + 1#32 = 1#32
  rw [pay1_eq]; rfl

theorem sshift31 (b : BitVec 32) : b.sshiftRight' 31#32 = b.sshiftRight 31 := rfl

theorem pay3_eq (ld : Vec F S1x16 .i32) (x : S16.Idx) :
    k0_pay3 ld x = key (shapeCast S16 ld shapeCasts_S1x16_S16 x) >>> 16 := rfl

theorem k2_pay3_eq (ld : Vec F S1x16 .i32) (x : S16.Idx) :
    k2_pay3 ld x = key (shapeCast S16 ld shapeCasts_S1x16_S16 x) &&& 65535#32 := rfl

theorem k2_pay2_eq (pre : Vec F S16 .i32) (ld : Vec F S1x16 .i32) (x : S16.Idx) :
    k2_pay2 pre ld x = 1#1 ↔ key (shapeCast S16 ld shapeCasts_S1x16_S16 x) >>> 16 = pre x := by
  show (BitVec.ofBool (decide (key (shapeCast S16 ld shapeCasts_S1x16_S16 x) >>> 16 = pre x))) = 1#1 ↔ _
  by_cases h : key (shapeCast S16 ld shapeCasts_S1x16_S16 x) >>> 16 = pre x <;> simp [h]

theorem high_lt (w : BitVec 32) : (w >>> 16).toNat < 65536 := by
  rw [BitVec.toNat_ushiftRight, Nat.shiftRight_eq_div_pow]
  have := w.isLt
  omega

theorem low_lt (w : BitVec 32) : (w &&& 65535#32).toNat < 65536 := by
  rw [BitVec.toNat_and]
  exact lt_of_le_of_lt Nat.and_le_right (by decide)

/-- What a pass must compute of sixteen words from `n` on: indices in the table, lanes counted as `hit` says. -/
def Counts (P : Enter (F := F)) (hit : BitVec 32 → ℕ → Bool) : Prop :=
  ∀ (ld : Vec F S1x16 .i32) (X : ℕ → BitVec 32), (∀ x : S16.Idx, shapeCast S16 ld shapeCasts_S1x16_S16 x = X (x 0).val) →
    k0_chk1 (P.idx ld) ∧ ∀ (j : S65536.Idx) (k : Fin 16),
      laneHits (s := S65536) (d := S16.size) ![P.idx ld] (P.mask ld) j k ↔ hit (X k.val) (j 0).val = true

theorem ofLane_val (k : Fin 16) : (Shape.ofLane (d := S16.size) k 0).val = k.val := rfl

theorem counts0 : Counts (F := F) enter0 hit0 := by
  intro ld X hX
  refine ⟨?_, ?_⟩
  · intro a x
    obtain rfl : a = 0 := Subsingleton.elim _ _
    exact high_lt _
  · intro j k
    show (1#1 = 1#1 ∧ ∀ a : Fin 1, (j a).val = ((![k0_pay3 ld] : Fin 1 → IVec S16 32) a (Shape.ofLane (d := S16.size) k)).toNat) ↔ _
    rw [hit0, decide_eq_true_iff, ← ofLane_val, ← hX]
    constructor
    · rintro ⟨-, h⟩; exact (h 0).symm
    · intro h
      refine ⟨rfl, fun a => ?_⟩
      obtain rfl : a = 0 := Subsingleton.elim _ _
      exact h.symm

theorem counts2 (pre : Vec F S16 .i32) (p : BitVec 32) (hp : ∀ x, pre x = p) : Counts (F := F) (enter2 pre) (hit2 p) := by
  intro ld X hX
  refine ⟨?_, ?_⟩
  · intro a x
    obtain rfl : a = 0 := Subsingleton.elim _ _
    exact low_lt _
  · intro j k
    show (k2_pay2 pre ld (Shape.ofLane (d := S16.size) k) = 1#1 ∧ ∀ a : Fin 1, (j a).val = ((![k2_pay3 ld] : Fin 1 → IVec S16 32) a (Shape.ofLane (d := S16.size) k)).toNat) ↔ _
    rw [hit2, Bool.and_eq_true, decide_eq_true_iff, decide_eq_true_iff, ← ofLane_val, ← hX, k2_pay2_eq, hp]
    refine and_congr Iff.rfl ⟨fun h => (h 0).symm, fun h a => ?_⟩
    obtain rfl : a = 0 := Subsingleton.elim _ _
    exact h.symm

end Cert.Proof.Keys

end
-- ==== Proof.Tile.lean ====
/-
  One vector subcore's pass, at a symbolic pair of SparseCore and tile: the table cleared, blocks fetched and entered,
  the table copied out. The table holds after `n` words the number of words so far at each of its places.
-/
module

public import proofs.«01_k».proof.Proof.Setup
public import proofs.«01_k».proof.Proof.Keys
public import Idealize.ShloMosaic.Lib.ValueLayout

@[expose] public section

noncomputable section

namespace Cert.Proof.Run

open Cert.KernelIdeal Cert.KernelIdeal.Gen Cert.Proof.Restate Cert.Proof.Keys Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A place of the table as a number. -/
def place (j : S65536.Idx) : ℕ := (j 0).val

theorem trips1 : k0_t1_loop.trips = 4096 := by decide
theorem trips2 : k0_t2_loop.trips = 1024 := by decide

theorem off4_eq : ∀ t : Fin k0_t2_loop.trips, k0_off4 t = ![t.val / 128, t.val % 128 * 16] := by decide +kernel

/-- The sixteen places a trip of the clearing loop writes, -/
abbrev rect1 (t : Fin k0_t1_loop.trips) : Rect S65536 := Rect.unit (s := S65536) (k0_off1 t) S16.size (k0_off1_inb t)

/-- and the sixteen words a trip of the entering loop reads. -/
abbrev rect4 (t : Fin k0_t2_loop.trips) : Rect S8x2048 := Rect.unit (s := S8x2048) (k0_off4 t) S1x16.size (k0_off4_inb t)

theorem rect1_emb (t : Fin k0_t1_loop.trips) (y : (rect1 t).shape.Idx) : ((rect1 t).emb y 0).val = 16 * t.val + (y 0).val := by
  rw [Rect.emb_apply]
  show k0_off1 t 0 + 1 * (y 0).val = _
  rw [k0_off1_eq]; simp

theorem rect1_mem (t : Fin k0_t1_loop.trips) (x : S65536.Idx) : x ∈ (rect1 t).set ↔ 16 * t.val ≤ (x 0).val ∧ (x 0).val < 16 * t.val + 16 := by
  rw [Rect.mem_set_unit]
  constructor
  · intro h; have := h 0; rw [k0_off1_eq] at this; exact this
  · intro h a; obtain rfl : a = 0 := Subsingleton.elim _ _
    rw [k0_off1_eq]; exact h

theorem rect4_emb0 (t : Fin k0_t2_loop.trips) (y : (rect4 t).shape.Idx) : ((rect4 t).emb y 0).val = t.val / 128 := by
  rw [Rect.emb_apply]
  show k0_off4 t 0 + 1 * (y 0).val = _
  have : (y 0).val < 1 := (y 0).isLt
  rw [off4_eq]; show t.val / 128 + _ = _; omega

theorem rect4_emb1 (t : Fin k0_t2_loop.trips) (y : (rect4 t).shape.Idx) : ((rect4 t).emb y 1).val = t.val % 128 * 16 + (y 1).val := by
  rw [Rect.emb_apply]
  show k0_off4 t 1 + 1 * (y 1).val = _
  rw [off4_eq]; show t.val % 128 * 16 + _ = _; omega

/-- Element `e` of the tile whose rows begin at `base`, in the order its blocks are entered: blocks of eight rows and
    half the columns, left before right. -/
def elt (base e : ℕ) : S4096x4096.Idx :=
  ValueIdx.ix2 (Fin.ofNat 4096 (base + e / 32768 * 8 + e % 16384 / 2048)) (Fin.ofNat 4096 (e / 16384 % 2 * 2048 + e % 2048))

/-- The first row of a tile. -/
def base (i : grid0.Coords) : ℕ := 256 * (i 1).val + 128 * (i 0).val

/-- The tile's words in that order. -/
def words (src : Memref sig .scVector .hbm S4096x4096 .i32) (g : src.view.ty.Contents (Elt F)) (i : grid0.Coords) (e : ℕ) : BitVec 32 :=
  src.view.read (Elt F) g (elt (base i) e)

theorem elt_eq (i : grid0.Coords) (e : ℕ) (he : e < 524288) (y : S4096x4096.Idx) (h0 : (y 0).val = base i + e / 32768 * 8 + e % 16384 / 2048)
    (h1 : (y 1).val = e / 16384 % 2 * 2048 + e % 2048) : y = elt (base i) e := by
  have l0 : (i 0).val < 2 := (i 0).isLt
  have l1 : (i 1).val < 16 := (i 1).isLt
  funext a
  match a with
  | 0 => exact Fin.ext (h0.trans (Nat.mod_eq_of_lt (by unfold base; omega)).symm)
  | 1 => exact Fin.ext (h1.trans (Nat.mod_eq_of_lt (by omega)).symm)

theorem srcA_read (src : Memref sig .scVector .hbm S4096x4096 .i32) (g : src.view.ty.Contents (Elt F)) (i : grid0.Coords) (r : Fin 16) (x : S8x2048.Idx) :
    (srcA i src r).view.read (Elt F) g x = words src g i (32768 * r.val + 2048 * (x 0).val + (x 1).val) := by
  have x0 : (x 0).val < 8 := (x 0).isLt
  have x1 : (x 1).val < 2048 := (x 1).isLt
  have hr := r.isLt
  unfold words
  refine congrArg (src.view.read (Elt F) g) (elt_eq i _ (by omega) _ ?_ ?_)
  · show k0_off2 i (BitVec.ofNat 32 (8 * r.val)) 0 + 1 * (x 0).val = _
    rw [k0_off2_eq]; show 256 * (i 1).val + 128 * (i 0).val + 8 * r.val + _ = _
    unfold base; omega
  · show k0_off2 i (BitVec.ofNat 32 (8 * r.val)) 1 + 1 * (x 1).val = _
    rw [k0_off2_eq]; show 0 + _ = _
    omega

theorem srcB_read (src : Memref sig .scVector .hbm S4096x4096 .i32) (g : src.view.ty.Contents (Elt F)) (i : grid0.Coords) (r : Fin 16) (x : S8x2048.Idx) :
    (srcB i src r).view.read (Elt F) g x = words src g i (32768 * r.val + 16384 + 2048 * (x 0).val + (x 1).val) := by
  have x0 : (x 0).val < 8 := (x 0).isLt
  have x1 : (x 1).val < 2048 := (x 1).isLt
  have hr := r.isLt
  unfold words
  refine congrArg (src.view.read (Elt F) g) (elt_eq i _ (by omega) _ ?_ ?_)
  · show k0_off3 i (BitVec.ofNat 32 (8 * r.val)) 0 + 1 * (x 0).val = _
    rw [k0_off3_eq]; show 256 * (i 1).val + 128 * (i 0).val + 8 * r.val + _ = _
    unfold base; omega
  · show k0_off3 i (BitVec.ofNat 32 (8 * r.val)) 1 + 1 * (x 1).val = _
    rw [k0_off3_eq]; show 2048 + _ = _
    omega

section
variable (d : Dev nD) {a : Fin τ.nSC} {b : Fin τ.nSub}

local notation "TH" => (V d a b : Thread nD τ)
local notation "Wp" => wp frame (wpE (defs₀ (F := F)) 𝒱₀ TH none) Set.univ

/-- The clearing loop leaves the table at no words. -/
theorem clear_spec (hist : Memref sig .scVector .vmem S65536 .i32) (hit : BitVec 32 → ℕ → Bool) (X : ℕ → BitVec 32)
    {α : Type} (kk : Unit → VP (F := F) a b α) (Q : α → sProp 𝕄) (f₀ : Buf (Elt F) (hist.view.loc TH)) :
    (hist.view.loc TH ↦{fullShare} f₀ : sProp 𝕄)
      ⊢ iprop((∀ f, (hist.view.loc TH ↦{fullShare} f) -∗ ⌜hist.view.read (Elt F) f = Hist.hist place hit X 0⌝ -∗ Wp (kk ⟨⟩) Q)
          -∗ Wp (Scf.Loop.for k0_t1_loop k0_t1_ok ⟨⟩ (clearBody hist k0_pay1) >>= kk) Q) := by
  iintro H Hk
  iapply (Scf.wp_for_bind frame (wpE (defs₀ (F := F)) 𝒱₀ TH none) Set.univ k0_t1_loop.lb k0_t1_loop.ub k0_t1_loop.st k0_t1_ok ⟨⟩ (clearBody hist k0_pay1)
    (fun n _ => iprop(∃ f, (hist.view.loc TH ↦{fullShare} f) ∗ ⌜∀ x : S65536.Idx, (x 0).val < 16 * n → hist.view.read (Elt F) f x = (0#32 : BitVec 32)⌝)) ?hb) $$ [H] [Hk]
  case hb =>
    intro t acc
    iintro ⟨%f, H, %hf⟩
    simp only [clearBody, Prog.lift, Prog.bind_op, Prog.bind_ret, Prog.pure_eq_ret]
    iapply (wp_load_rect (defs := defs₀ (F := F)) 𝒱₀ TH none Set.univ (m := hist) (r := rect1 t) (f := f) (Finset.subset_univ _)) $$ H
    iintro H
    iapply (wp_store (defs := defs₀ (F := F)) 𝒱₀ TH none Set.univ (m := hist) (r := rect1 t) (f := f) (Finset.subset_univ _)) $$ H
    iintro H
    rw [wp_ret]
    imodintro
    iexists _
    isplitl [H]; · iexact H
    ipureintro
    intro x hx
    by_cases hm : x ∈ (Finset.univ : Finset (rect1 t).shape.Idx).map (rect1 t).emb
    · obtain ⟨y, -, rfl⟩ := Finset.mem_map.mp hm
      exact (View.read_slice_write_emb (v := hist.view) (rect1 t) f _ (Finset.mem_univ y)).trans (by rw [pay1_eq])
    · refine (View.read_slice_write_of_not_mem (v := hist.view) (rect1 t) f _ _ hm).trans (hf x ?_)
      by_contra hlt
      exact hm (by rw [Rect.map_emb_univ]; exact (rect1_mem t x).mpr ⟨by omega, by omega⟩)
  · iexists f₀
    isplitl [H]; · iexact H
    ipureintro
    intro x hx; omega
  · iintro %acc ⟨%f, H, %hf⟩
    iapply Hk $$ %f H
    ipureintro
    funext x
    refine (hf x ?_).trans ?_
    · show (x 0).val < 16 * k0_t1_loop.trips
      have : (x 0).val < 65536 := (x 0).isLt
      rw [trips1]; omega
    · show (0#32 : BitVec 32) = BitVec.ofNat 32 (tally hit X 0 (place x))
      rw [tally_zero]

theorem access_whole_set {s : Shape} {e : EltTy} (m : Memref sig .scVector .vmem s e) (hm : m.IsWhole) : (m.access (.whole s)).set = Finset.univ := by
  show (m.view.slice (Rect.whole s)).set = _
  rw [View.set_slice, Rect.set_whole]
  exact hm.set_eq_univ

theorem read_whole_eq {s : Shape} {e : EltTy} (m : Memref sig .scVector .vmem s e) (f : m.view.ty.Contents (Elt F)) :
    (m.access (.whole s)).read (Elt F) f = m.view.read (Elt F) f := by
  funext x
  show m.view.read (Elt F) f ((Rect.whole s).emb x) = _
  rw [Rect.emb_whole_apply]

theorem read_whole_write {s : Shape} {e : EltTy} (m : Memref sig .scVector .vmem s e) (f : m.view.ty.Contents (Elt F)) (w : s.Idx → Elt F e) :
    m.view.read (Elt F) ((m.access (.whole s)).write (Elt F) f w Finset.univ) = w := by
  rw [← read_whole_eq]
  exact View.read_write_univ _ _

/-- Entering a block: the sixteen-word groups of the buffer in order, the table ahead by the block's words. -/
theorem enter_spec (P : Enter (F := F)) (hit : BitVec 32 → ℕ → Bool) (hP : Counts P hit)
    (hist : Memref sig .scVector .vmem S65536 .i32) (hh : hist.IsWhole) (buf : Memref sig .scVector .vmem S8x2048 .i32) (X : ℕ → BitVec 32) (n : ℕ)
    {α : Type} (kk : Unit → VP (F := F) a b α) (Q : α → sProp 𝕄) (fb : Buf (Elt F) (buf.view.loc TH)) (f₀ : Buf (Elt F) (hist.view.loc TH))
    (hfb : ∀ x : S8x2048.Idx, buf.view.read (Elt F) fb x = X (n + 2048 * (x 0).val + (x 1).val))
    (hf₀ : hist.view.read (Elt F) f₀ = Hist.hist place hit X n) :
    iprop((buf.view.loc TH ↦{fullShare} fb) ∗ (hist.view.loc TH ↦{fullShare} f₀) : sProp 𝕄)
      ⊢ iprop((∀ f, (buf.view.loc TH ↦{fullShare} fb) -∗ (hist.view.loc TH ↦{fullShare} f) -∗ ⌜hist.view.read (Elt F) f = Hist.hist place hit X (n + 16384)⌝ -∗ Wp (kk ⟨⟩) Q)
          -∗ Wp (enter P k0_pay2 hist buf >>= kk) Q) := by
  iintro ⟨Hb, H⟩ Hk
  iapply (Scf.wp_for_bind frame (wpE (defs₀ (F := F)) 𝒱₀ TH none) Set.univ k0_t2_loop.lb k0_t2_loop.ub k0_t2_loop.st k0_t2_ok ⟨⟩ (enterBody P k0_pay2 hist buf)
    (fun t _ => iprop((buf.view.loc TH ↦{fullShare} fb) ∗ ∃ f, (hist.view.loc TH ↦{fullShare} f) ∗ ⌜hist.view.read (Elt F) f = Hist.hist place hit X (n + 16 * t)⌝)) ?hb) $$ [H Hb] [Hk]
  case hb =>
    intro t acc
    iintro ⟨Hb, %f, H, %hf⟩
    have hld : ∀ x : S16.Idx, shapeCast S16 ((buf.access (rect4 t)).read (Elt F) fb : Vec F S1x16 .i32) shapeCasts_S1x16_S16 x = X (n + 16 * t.val + (x 0).val) := by
      intro x
      obtain ⟨k, rfl⟩ : ∃ k : Fin 16, x = ValueIdx.ix1 k := ⟨x 0, by funext a; obtain rfl : a = 0 := Subsingleton.elim _ _; rfl⟩
      rw [ValueIdx.shapeCast_1a_a_apply]
      refine (hfb ((rect4 t).emb _)).trans ?_
      rw [rect4_emb0, rect4_emb1]
      congr 1
      show n + 2048 * (t.val / 128) + (t.val % 128 * 16 + k.val) = n + 16 * t.val + k.val
      omega
    obtain ⟨hchk, hlane⟩ := hP ((buf.access (rect4 t)).read (Elt F) fb) (fun k => X (n + 16 * t.val + k)) hld
    simp only [enterBody, Prog.lift, Prog.bind_op, Prog.bind_ret, Prog.pure_eq_ret]
    iapply (wp_load_rect (defs := defs₀ (F := F)) 𝒱₀ TH none Set.univ (m := buf) (r := rect4 t) (f := fb) (Finset.subset_univ _)) $$ Hb
    iintro Hb
    iapply (wp_assume (defs := defs₀ (F := F)) 𝒱₀ TH none Set.univ hchk)
    rw [← access_whole_set hist hh]
    iapply (SparseCore.wp_vectorStoreIdx (defs := defs₀ (F := F)) 𝒱₀ TH none Set.univ (base := hist) (f := f)) $$ H
    iintro H
    rw [wp_ret]
    imodintro
    isplitl [Hb]; · iexact Hb
    iexists _
    isplitl [H]; · iexact H
    ipureintro
    refine (read_whole_write hist f _).trans ?_
    rw [read_whole_eq, hf]
    rw [show n + 16 * (t.val + 1) = n + 16 * t.val + S16.size 0 from by show _ = _ + 16; omega]
    exact hist_step place hit X (n + 16 * t.val) _ rfl _ _ pay2_eq _ _ hlane
  · isplitl [Hb]; · iexact Hb
    iexists f₀
    isplitl [H]; · iexact H
    ipureintro
    exact hf₀
  · iintro %acc ⟨Hb, %f, H, %hf⟩
    iapply Hk $$ %f Hb H
    ipureintro
    rw [hf]
    show Hist.hist place hit X (n + 16 * k0_t2_loop.trips) = _
    rw [trips2]

/-- What the subcore owes, and waits whose cells are its own added to those of `W`. -/
def Owe (th : Thread nD τ) (O : CellTallies nD τ sig (HIx 2)) (W : Waits sig (HIx 2)) : sProp 𝕄 :=
  iprop(∃ W', ⌜∀ p ∈ W', p ∈ W ∨ p.2 = none⌝ ∗ owes th O W')

/-- A block on its way into a buffer, and what is left of the share of the scores it is read from. -/
def InFlight (a : Fin τ.nSC) (b : Fin τ.nSub) (sl : Memref sig .scVector .hbm S8x2048 .i32) (buf : Memref sig .scVector .vmem S8x2048 .i32) (sem : DmaSems sig S_) (q : PosShare TreeShare)
    (g : Buf (Elt F) (sl.view.loc TH)) : sProp 𝕄 :=
  iprop((∃ f, Transfers.Flight countersEmb TH (.dma sem.sem) (default : HIx 2) buf.view.dmaCredit
      iprop((buf.view.loc TH ↦{fullShare} (buf.view.write (Elt F) f (sl.view.read (Elt F) g) Finset.univ)) ∗ (sl.view.loc TH ↦[sl.view.set]{q} g)))
    ∗ (sl.view.loc TH ↦[Finset.univ \ sl.view.set]{q} g))

theorem fetch_spec (sl : Memref sig .scVector .hbm S8x2048 .i32) (buf : Memref sig .scVector .vmem S8x2048 .i32) (hbuf : buf.IsWhole) (sem : DmaSems sig S_)
    (q : PosShare TreeShare) (g : Buf (Elt F) (sl.view.loc TH)) (fd : Buf (Elt F) (buf.view.loc TH))
    {α : Type} (kk : PUnit → VP (F := F) a b α) (Q : α → sProp 𝕄) :
    iprop((sl.view.loc TH ↦{q} g) ∗ (buf.view.loc TH ↦{fullShare} fd) ∗ semVal (TH, SemLoc.dma sem.sem) 0 : sProp 𝕄)
      ⊢ iprop((InFlight d a b sl buf sem q g -∗ Wp (kk ⟨⟩) Q) -∗ Wp (fetch sl buf hbuf sem >>= kk) Q) := by
  iintro ⟨Hg, Hb, Hs⟩ Hk
  simp only [fetch, Prog.lift, Prog.bind_op, Prog.bind_ret]
  ihave Hg' := (pointsTo_split_subset (q := q) (f := g) (S := Finset.univ) (Finset.subset_univ sl.view.set)).1 $$ Hg
  icases Hg' with ⟨Hg, Hr⟩
  iapply (Transfers.wp_dmaLocal (defs := defs₀ (F := F)) countersEmb 𝒱₀ TH none (src := sl) (dst := buf) (sm := .dma sem.sem) (default : HIx 2) buf.view.dmaCredit rfl
    (buf.view.dmaCredit_pos (by decide)) (Finset.subset_univ _) (q := q) (fs := g) (fd := fd)) $$ [Hg Hb Hs]
  · isplitl [Hg]; · iexact Hg
    isplitl [Hb]; · iexact Hb
    iexact Hs
  · iintro Hf
    iapply Hk
    unfold InFlight
    isplitl [Hf]
    · iexists fd
      iexact Hf
    · iexact Hr

theorem await_spec (sl : Memref sig .scVector .hbm S8x2048 .i32) (buf : Memref sig .scVector .vmem S8x2048 .i32) (hbuf : buf.IsWhole) (sem : DmaSems sig S_)
    (q : PosShare TreeShare) (g : Buf (Elt F) (sl.view.loc TH)) (O : CellTallies nD τ sig (HIx 2)) (W : Waits sig (HIx 2))
    {α : Type} (kk : PUnit → VP (F := F) a b α) (Q : α → sProp 𝕄) :
    iprop(InFlight d a b sl buf sem q g ∗ Owe TH O W ∗ Transfers.MayWaits TH (default : HIx 2) O : sProp 𝕄)
      ⊢ iprop((∀ f, (buf.view.loc TH ↦{fullShare} f) -∗ ⌜buf.view.read (Elt F) f = sl.view.read (Elt F) g⌝ -∗ (sl.view.loc TH ↦{q} g)
            -∗ semVal (TH, SemLoc.dma sem.sem) 0 -∗ Owe TH O W -∗ Wp (kk ⟨⟩) Q)
          -∗ Wp (await sl buf hbuf sem >>= kk) Q) := by
  unfold InFlight Owe
  iintro ⟨⟨⟨%fd, Hf⟩, Hr⟩, ⟨%W', %hW, HO⟩, #Hmw⟩ Hk
  simp only [await, Prog.lift, Prog.bind_op, Prog.bind_ret]
  iapply (Transfers.wp_waitLocalO (defs := defs₀ (F := F)) countersEmb 𝒱₀ TH none (srcw := sl) (dstw := buf) (sem := sem.sem) (default : HIx 2) (N := buf.view.dmaCredit) rfl (O := O) (W := W')) $$ [Hf HO]
  · isplitl [Hf]; · iexact Hf
    isplitl [HO]; · iexact HO
    iapply (Transfers.MayWaits.elim (SemLoc.dma sem.sem))
    iexact Hmw
  · iintro ⟨⟨Hb, Hg⟩, Hs, HO⟩
    ihave Hg' := (pointsTo_split_subset (q := q) (f := g) (S := Finset.univ) (Finset.subset_univ sl.view.set)).2 $$ [Hg Hr]
    · isplitl [Hg]; · iexact Hg
      iexact Hr
    iapply Hk $$ %_ Hb %(View.read_write_univ _ _) Hg' Hs
    iexists (insert (SemLoc.dma sem.sem, (default : HIx 2)) W')
    isplitr
    · ipureintro
      intro p hp
      rcases Finset.mem_insert.mp hp with h | hp
      · right; rw [h]; rfl
      · exact hW p hp
    · iexact HO

end

end Cert.Proof.Run

end
-- ==== Proof.Blocks.lean ====
/-
  The thirty-two blocks of a tile entered, one block on its way while another is entered.
-/
module

public import proofs.«01_k».proof.Proof.Tile

@[expose] public section

noncomputable section

namespace Cert.Proof.Run

open Cert.KernelIdeal Cert.KernelIdeal.Gen Cert.Proof.Restate Cert.Proof.Keys Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section
variable (d : Dev nD) {a : Fin τ.nSC} {b : Fin τ.nSub}

local notation "TH" => (V d a b : Thread nD τ)
local notation "Wp" => wp frame (wpE (defs₀ (F := F)) 𝒱₀ TH none) Set.univ

section
variable (i : grid0.Coords) (P : Enter (F := F)) (hit : BitVec 32 → ℕ → Bool) (hP : Counts P hit) (src : Memref sig .scVector .hbm S4096x4096 .i32)
  (bufA : Memref sig .scVector .vmem S8x2048 .i32) (hA : bufA.IsWhole) (bufB : Memref sig .scVector .vmem S8x2048 .i32) (hB : bufB.IsWhole)
  (hist : Memref sig .scVector .vmem S65536 .i32) (hh : hist.IsWhole) (semA semB : DmaSems sig S_) (qA qB : PosShare TreeShare) (g : Buf (Elt F) (src.view.loc (V d a b : Thread nD τ)))
  (O : CellTallies nD τ sig (HIx 2)) (W : Waits sig (HIx 2))

/-- The table after the tile's first `n` words. -/
def Table (a : Fin τ.nSC) (b : Fin τ.nSub) (i : grid0.Coords) (hit : BitVec 32 → ℕ → Bool) (src : Memref sig .scVector .hbm S4096x4096 .i32) (hist : Memref sig .scVector .vmem S65536 .i32)
    (g : Buf (Elt F) (src.view.loc TH)) (n : ℕ) : sProp 𝕄 :=
  iprop(∃ f, (hist.view.loc TH ↦{fullShare} f) ∗ ⌜hist.view.read (Elt F) f = Hist.hist place hit (words src g i) n⌝)

/-- Before pair `r`: its first block on its way, the other buffer free, the pairs before it entered. -/
def Ready (r : Fin 16) : sProp 𝕄 :=
  iprop(InFlight d a b (srcA i src r) bufA semA qA g ∗ (∃ f, bufB.view.loc TH ↦{fullShare} f) ∗ semVal (TH, SemLoc.dma semB.sem) 0 ∗ (src.view.loc TH ↦{qB} g)
    ∗ Table d a b i hit src hist g (32768 * r.val) ∗ Owe TH O W)

include hP hh in
theorem pair_spec (r r' : Fin 16) (hr : r'.val = r.val + 1) {α : Type} (kk : Unit → VP (F := F) a b α) (Q : α → sProp 𝕄) :
    iprop(Transfers.MayWaits TH (default : HIx 2) O ∗ Ready d (a := a) (b := b) i hit src bufA bufB hist semA semB qA qB g O W r : sProp 𝕄)
      ⊢ iprop((Ready d (a := a) (b := b) i hit src bufA bufB hist semA semB qA qB g O W r' -∗ Wp (kk ⟨⟩) Q)
          -∗ Wp (pair i P k0_pay2 src bufA hA bufB hB hist semA semB r r' >>= kk) Q) := by
  unfold Ready Table
  iintro ⟨#Hmw, HfA, ⟨%fB, HB⟩, HsB, HgB, ⟨%f, HT, %hf⟩, HO⟩ Hk
  simp only [pair, bind_assoc]
  iapply (fetch_spec (F := F) d (srcB i src r) bufB hB semB qB g fB) $$ [HgB HB HsB]
  · isplitl [HgB]; · iexact HgB
    isplitl [HB]; · iexact HB
    iexact HsB
  iintro HfB
  iapply (await_spec (F := F) d (srcA i src r) bufA hA semA qA g O W) $$ [HfA HO]
  · isplitl [HfA]; · iexact HfA
    isplitl [HO]; · iexact HO
    iexact Hmw
  iintro %fA HA %hfA HgA HsA HO
  iapply (enter_spec (F := F) d P hit hP hist hh bufA (words src g i) (32768 * r.val) _ _ fA f (fun x => by rw [hfA]; exact srcA_read src g i r x) hf) $$ [HA HT]
  · isplitl [HA]; · iexact HA
    iexact HT
  iintro %f1 HA HT %hf1
  iapply (fetch_spec (F := F) d (srcA i src r') bufA hA semA qA g fA) $$ [HgA HA HsA]
  · isplitl [HgA]; · iexact HgA
    isplitl [HA]; · iexact HA
    iexact HsA
  iintro HfA
  iapply (await_spec (F := F) d (srcB i src r) bufB hB semB qB g O W) $$ [HfB HO]
  · isplitl [HfB]; · iexact HfB
    isplitl [HO]; · iexact HO
    iexact Hmw
  iintro %fB' HB %hfB HgB HsB HO
  iapply (enter_spec (F := F) d P hit hP hist hh bufB (words src g i) (32768 * r.val + 16384) _ _ fB' f1 (fun x => by rw [hfB]; exact srcB_read src g i r x) hf1) $$ [HB HT]
  · isplitl [HB]; · iexact HB
    iexact HT
  iintro %f2 HB HT %hf2
  iapply Hk
  isplitl [HfA]; · iexact HfA
  isplitl [HB]
  · iexists fB'; iexact HB
  isplitl [HsB]; · iexact HsB
  isplitl [HgB]; · iexact HgB
  isplitl [HT]
  · iexists f2
    isplitl [HT]; · iexact HT
    ipureintro
    rw [hf2, hr]
    congr 1
  iexact HO

include hP hh in
theorem pairs_spec (n : ℕ) (hn : n ≤ 15) : ∀ {α : Type} (kk : Unit → VP (F := F) a b α) (Q : α → sProp 𝕄),
    iprop(Transfers.MayWaits TH (default : HIx 2) O ∗ Ready d (a := a) (b := b) i hit src bufA bufB hist semA semB qA qB g O W 0 : sProp 𝕄)
      ⊢ iprop((Ready d (a := a) (b := b) i hit src bufA bufB hist semA semB qA qB g O W ⟨n, by omega⟩ -∗ Wp (kk ⟨⟩) Q)
          -∗ Wp (pairs i P k0_pay2 src bufA hA bufB hB hist semA semB n hn >>= kk) Q) := by
  induction n with
  | zero =>
    intro α kk Q
    iintro ⟨-, HR⟩ Hk
    simp only [pairs, pure_bind]
    iapply Hk
    iexact HR
  | succ n ih =>
    intro α kk Q
    iintro ⟨#Hmw, HR⟩ Hk
    simp only [pairs, bind_assoc]
    iapply (ih _) $$ [HR]
    · isplitr; · iexact Hmw
      iexact HR
    iintro HR
    iapply (pair_spec (F := F) d i P hit hP src bufA hA bufB hB hist hh semA semB qA qB g O W _ _ rfl) $$ [HR]
    · isplitr; · iexact Hmw
      iexact HR
    iexact Hk

attribute [local irreducible] pairs

include hP hh in
/-- The thirty-two blocks: the table at all the tile's words, everything else back. -/
theorem blocks_spec {α : Type} (kk : Unit → VP (F := F) a b α) (Q : α → sProp 𝕄) (fA : Buf (Elt F) (bufA.view.loc TH)) (fB : Buf (Elt F) (bufB.view.loc TH)) :
    iprop(Transfers.MayWaits TH (default : HIx 2) O ∗ (bufA.view.loc TH ↦{fullShare} fA) ∗ (bufB.view.loc TH ↦{fullShare} fB)
        ∗ semVal (TH, SemLoc.dma semA.sem) 0 ∗ semVal (TH, SemLoc.dma semB.sem) 0 ∗ (src.view.loc TH ↦{qA} g) ∗ (src.view.loc TH ↦{qB} g)
        ∗ Table d a b i hit src hist g 0 ∗ Owe TH O W : sProp 𝕄)
      ⊢ iprop((iprop((∃ f, bufA.view.loc TH ↦{fullShare} f) ∗ (∃ f, bufB.view.loc TH ↦{fullShare} f)
          ∗ semVal (TH, SemLoc.dma semA.sem) 0 ∗ semVal (TH, SemLoc.dma semB.sem) 0 ∗ (src.view.loc TH ↦{qA} g) ∗ (src.view.loc TH ↦{qB} g)
          ∗ Table d a b i hit src hist g 524288 ∗ Owe TH O W) -∗ Wp (kk ⟨⟩) Q)
          -∗ Wp (blocks i P k0_pay2 src bufA hA bufB hB hist semA semB >>= kk) Q) := by
  iintro ⟨#Hmw, HA, HB, HsA, HsB, HgA, HgB, HT, HO⟩ Hk
  simp only [blocks, lastPair, bind_assoc]
  iapply (fetch_spec (F := F) d (srcA i src 0) bufA hA semA qA g fA) $$ [HgA HA HsA]
  · isplitl [HgA]; · iexact HgA
    isplitl [HA]; · iexact HA
    iexact HsA
  iintro HfA
  iapply (pairs_spec (F := F) d i P hit hP src bufA hA bufB hB hist hh semA semB qA qB g O W 15 _) $$ [HfA HB HsB HgB HT HO]
  · isplitr; · iexact Hmw
    unfold Ready
    isplitl [HfA]; · iexact HfA
    isplitl [HB]
    · iexists fB; iexact HB
    isplitl [HsB]; · iexact HsB
    isplitl [HgB]; · iexact HgB
    isplitl [HT]; · iexact HT
    iexact HO
  unfold Ready Table
  iintro ⟨HfA, ⟨%fB', HB⟩, HsB, HgB, ⟨%f, HT, %hf⟩, HO⟩
  iapply (fetch_spec (F := F) d (srcB i src 15) bufB hB semB qB g fB') $$ [HgB HB HsB]
  · isplitl [HgB]; · iexact HgB
    isplitl [HB]; · iexact HB
    iexact HsB
  iintro HfB
  iapply (await_spec (F := F) d (srcA i src 15) bufA hA semA qA g O W) $$ [HfA HO]
  · isplitl [HfA]; · iexact HfA
    isplitl [HO]; · iexact HO
    iexact Hmw
  iintro %fA' HA %hfA HgA HsA HO
  iapply (enter_spec (F := F) d P hit hP hist hh bufA (words src g i) (32768 * 15) _ _ fA' f (fun x => by rw [hfA]; exact srcA_read src g i 15 x) hf) $$ [HA HT]
  · isplitl [HA]; · iexact HA
    iexact HT
  iintro %f1 HA HT %hf1
  iapply (await_spec (F := F) d (srcB i src 15) bufB hB semB qB g O W) $$ [HfB HO]
  · isplitl [HfB]; · iexact HfB
    isplitl [HO]; · iexact HO
    iexact Hmw
  iintro %fB'' HB %hfB HgB HsB HO
  iapply (enter_spec (F := F) d P hit hP hist hh bufB (words src g i) (32768 * 15 + 16384) _ _ fB'' f1 (fun x => by rw [hfB]; exact srcB_read src g i 15 x) hf1) $$ [HB HT]
  · isplitl [HB]; · iexact HB
    iexact HT
  iintro %f2 HB HT %hf2
  iapply Hk
  isplitl [HA]
  · iexists fA'; iexact HA
  isplitl [HB]
  · iexists fB''; iexact HB
  isplitl [HsA]; · iexact HsA
  isplitl [HsB]; · iexact HsB
  isplitl [HgA]; · iexact HgA
  isplitl [HgB]; · iexact HgB
  isplitl [HT]
  · iexists f2
    isplitl [HT]; · iexact HT
    ipureintro
    exact hf2
  iexact HO

end

end

end Cert.Proof.Run

end
-- ==== Proof.Body.lean ====
/-
  The two passes' bodies on one vector subcore: what they leave in the tile's block of the output.
-/
module

public import proofs.«01_k».proof.Proof.Blocks

@[expose] public section

noncomputable section

namespace Cert.Proof.Run

open Cert.KernelIdeal Cert.KernelIdeal.Gen Cert.Proof.Restate Cert.Proof.Keys Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section
variable (d : Dev nD) {a : Fin τ.nSC} {b : Fin τ.nSub}

local notation "TH" => (V d a b : Thread nD τ)
local notation "Wp" => wp frame (wpE (defs₀ (F := F)) 𝒱₀ TH none) Set.univ

/-- The tile's block of the output. -/
abbrev outBlock (i : grid0.Coords) (out : Memref sig .scVector .hbm S2097152 .i32) : Memref sig .scVector .hbm S65536 .i32 :=
  out.slice (Rect.unit (s := S2097152) (k0_off36 i) S65536.size (k0_off36_inb i)) (fun _ => rfl)

/-- The table copied out: the block holds what `G` holds there, `G` reading as the table. -/
theorem copyOut_spec (i : grid0.Coords) (hist : Memref sig .scVector .vmem S65536 .i32) (hh : hist.IsWhole) (out : Memref sig .scVector .hbm S2097152 .i32) (sem : DmaSems sig S_)
    (f : Buf (Elt F) (hist.view.loc (V d a b : Thread nD τ))) (fo G : Buf (Elt F) ((outBlock i out).view.loc (V d a b : Thread nD τ)))
    (hG : hist.view.read (Elt F) f = (outBlock i out).view.read (Elt F) G)
    (O : CellTallies nD τ sig (HIx 2)) (W : Waits sig (HIx 2)) (Q : PUnit → sProp 𝕄) :
    iprop(Transfers.MayWaits TH (default : HIx 2) O ∗ (hist.view.loc TH ↦{fullShare} f) ∗ ((outBlock i out).view.loc TH ↦[(outBlock i out).view.set]{fullShare} fo)
        ∗ semVal (TH, SemLoc.dma sem.sem) 0 ∗ Owe TH O W : sProp 𝕄)
      ⊢ iprop((iprop((hist.view.loc TH ↦{fullShare} f) ∗ ((outBlock i out).view.loc TH ↦[(outBlock i out).view.set]{fullShare} G)
        ∗ semVal (TH, SemLoc.dma sem.sem) 0 ∗ Owe TH O W) -∗ Q ⟨⟩) -∗ Wp (copyOut i hist hh out sem) Q) := by
  unfold Owe
  iintro ⟨#Hmw, Hh, Ho, Hs, ⟨%W', %hW, HO⟩⟩ Hk
  simp only [copyOut, Prog.lift, Prog.bind_op, Prog.bind_ret]
  ihave Hh' := (pointsTo_split_subset (q := fullShare) (f := f) (S := Finset.univ) (Finset.subset_univ hist.view.set)).1 $$ Hh
  icases Hh' with ⟨Hh, Hr⟩
  iapply (Transfers.wp_dmaLocal (defs := defs₀ (F := F)) countersEmb 𝒱₀ TH none (src := hist) (dst := outBlock i out) (sm := .dma sem.sem) (default : HIx 2) (outBlock i out).view.dmaCredit rfl
    ((outBlock i out).view.dmaCredit_pos (by decide)) (Finset.Subset.refl _) (q := fullShare) (fs := f) (fd := fo)) $$ [Hh Ho Hs]
  · isplitl [Hh]; · iexact Hh
    isplitl [Ho]; · iexact Ho
    iexact Hs
  iintro Hf
  iapply (Transfers.wp_waitLocalO (defs := defs₀ (F := F)) countersEmb 𝒱₀ TH none (srcw := hist) (dstw := outBlock i out) (sem := sem.sem) (default : HIx 2) (N := (outBlock i out).view.dmaCredit) rfl (O := O) (W := W')) $$ [Hf HO]
  · isplitl [Hf]; · iexact Hf
    isplitl [HO]; · iexact HO
    iapply (Transfers.MayWaits.elim (SemLoc.dma sem.sem))
    iexact Hmw
  iintro ⟨⟨Ho, Hh⟩, Hs, HO⟩
  ihave Hh' := (pointsTo_split_subset (q := fullShare) (f := f) (S := Finset.univ) (Finset.subset_univ hist.view.set)).2 $$ [Hh Hr]
  · isplitl [Hh]; · iexact Hh
    iexact Hr
  rw [wp_ret]
  imodintro
  iapply Hk
  isplitl [Hh']; · iexact Hh'
  isplitl [Ho]
  · iapply (Entails.of_eq (pointsTo_congr (q := fullShare) (f := (outBlock i out).view.write (Elt F) fo (hist.view.read (Elt F) f) Finset.univ) (g := G) (fun j hj => ?_))) $$ Ho
    rw [hG, View.write_read_eq_piecewise]
    exact Finset.piecewise_eq_of_mem _ _ _ hj
  isplitl [Hs]; · iexact Hs
  iexists (insert (SemLoc.dma sem.sem, (default : HIx 2)) W')
  isplitr
  · ipureintro
    intro p hp
    rcases Finset.mem_insert.mp hp with h | hp
    · right; rw [h]; rfl
    · exact hW p hp
  · iexact HO

/-- The state's row 0 read: every one of the sixteen words is `p` if the row is. -/
theorem readState_spec (st : Memref sig .scVector .hbm S8x128 .i32) (row : Memref sig .scVector .vmem S128 .i32) (hrow : row.IsWhole) (sem : DmaSems sig S_)
    (q : PosShare TreeShare) (g : Buf (Elt F) ((stateRow st).view.loc (V d a b : Thread nD τ))) (fd : Buf (Elt F) (row.view.loc (V d a b : Thread nD τ)))
    (p : BitVec 32) (hp : ∀ y : S128.Idx, (stateRow st).view.read (Elt F) g y = p)
    (O : CellTallies nD τ sig (HIx 2)) (W : Waits sig (HIx 2))
    {α : Type} (kk : Vec F S16 .i32 → VP (F := F) a b α) (Q : α → sProp 𝕄) :
    iprop(Transfers.MayWaits TH (default : HIx 2) O ∗ ((stateRow st).view.loc TH ↦{q} g) ∗ (row.view.loc TH ↦{fullShare} fd)
        ∗ semVal (TH, SemLoc.dma sem.sem) 0 ∗ Owe TH O W : sProp 𝕄)
      ⊢ iprop((∀ f, ∀ pre : Vec F S16 .i32, ⌜∀ x, pre x = p⌝ -∗ ((stateRow st).view.loc TH ↦{q} g) -∗ (row.view.loc TH ↦{fullShare} f)
          -∗ semVal (TH, SemLoc.dma sem.sem) 0 -∗ Owe TH O W -∗ Wp (kk pre) Q)
        -∗ Wp (readState st row hrow sem >>= kk) Q) := by
  unfold Owe
  iintro ⟨#Hmw, Hg, Hb, Hs, ⟨%W', %hW, HO⟩⟩ Hk
  simp only [readState, Prog.lift, Prog.bind_op, Prog.bind_ret]
  ihave Hg' := (pointsTo_split_subset (q := q) (f := g) (S := Finset.univ) (Finset.subset_univ (stateRow st).view.set)).1 $$ Hg
  icases Hg' with ⟨Hg, Hr⟩
  iapply (Transfers.wp_dmaLocal (defs := defs₀ (F := F)) countersEmb 𝒱₀ TH none (src := stateRow st) (dst := row) (hsrc := (View.wordExact_bits rfl).reshape _ _) (hdst := hrow.wordExact) (sm := .dma sem.sem) (default : HIx 2) row.view.dmaCredit rfl
    (row.view.dmaCredit_pos (by decide)) (Finset.subset_univ _) (q := q) (fs := g) (fd := fd)) $$ [Hg Hb Hs]
  · isplitl [Hg]; · iexact Hg
    isplitl [Hb]; · iexact Hb
    iexact Hs
  iintro Hf
  iapply (Transfers.wp_waitLocalO (defs := defs₀ (F := F)) countersEmb 𝒱₀ TH none (srcw := stateRow st) (dstw := row) (hsrc := (View.wordExact_bits rfl).reshape _ _) (hdst := hrow.wordExact) (sem := sem.sem) (default : HIx 2) (N := row.view.dmaCredit) rfl (O := O) (W := W')) $$ [Hf HO]
  · isplitl [Hf]; · iexact Hf
    isplitl [HO]; · iexact HO
    iapply (Transfers.MayWaits.elim (SemLoc.dma sem.sem))
    iexact Hmw
  iintro ⟨⟨Hb, Hg⟩, Hs, HO⟩
  ihave Hg' := (pointsTo_split_subset (q := q) (f := g) (S := Finset.univ) (Finset.subset_univ (stateRow st).view.set)).2 $$ [Hg Hr]
  · isplitl [Hg]; · iexact Hg
    iexact Hr
  iapply (wp_load_rect (defs := defs₀ (F := F)) 𝒱₀ TH none Set.univ (m := row) (r := Rect.unit (s := S128) ![0] S16.size inb_S128_S16_0)
    (f := row.view.write (Elt F) fd ((stateRow st).view.read (Elt F) g) Finset.univ) (Finset.subset_univ _)) $$ Hb
  iintro Hb
  iapply Hk $$ %_ %_ %_ Hg' Hb Hs
  · intro x
    refine (congrFun (View.read_write_univ (v := row.view) fd ((stateRow st).view.read (Elt F) g)) _).trans (hp _)
  iexists (insert (SemLoc.dma sem.sem, (default : HIx 2)) W')
  isplitr
  · ipureintro
    intro p hp
    rcases Finset.mem_insert.mp hp with h | hp
    · right; rw [h]; rfl
    · exact hW p hp
  · iexact HO

end

end Cert.Proof.Run

end
-- ==== Proof.Task.lean ====
/-
  The two passes' tasks on one vector subcore, on the whole arrays: from its block of the output at anything to the block
  at the tile's table.
-/
module

public import proofs.«01_k».proof.Proof.Body

@[expose] public section

noncomputable section

namespace Cert.Proof.Run

open Cert.KernelIdeal Cert.KernelIdeal.Gen Cert.Proof.Restate Cert.Proof.Keys Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The scores' words, the two tables' arrays and the state between the passes, on device `d`. -/
abbrev xLoc (d : Dev nD) : Loc nD τ sig := (SparseCore.T d).loc main_arg1
abbrev oLoc0 (d : Dev nD) : Loc nD τ sig := (SparseCore.T d).loc main_v0
abbrev sLoc (d : Dev nD) : Loc nD τ sig := (SparseCore.T d).loc main_v2
abbrev oLoc2 (d : Dev nD) : Loc nD τ sig := (SparseCore.T d).loc main_v3

/-- The tables of all tiles, one after the other: entry `p` is the number of tile `p / 65536`'s words that hit bin `p % 65536`. -/
def tables (hit : BitVec 32 → ℕ → Bool) (w : S4096x4096.Idx → BitVec 32) : S2097152.Idx → BitVec 32 :=
  fun p => BitVec.ofNat 32 (tally hit (fun e => w (elt (128 * ((p 0).val / 65536)) e)) 524288 ((p 0).val % 65536))

/-- The block of tile `j` of SparseCore `c`. -/
def blk (c j : ℕ) : Finset S2097152.Idx := Finset.univ.filter fun p => (p 0).val / 65536 = 2 * j + c

/-- The read shares: one for each SparseCore, and of it one for each tile. -/
abbrev scShare (c : ℕ) : PosShare TreeShare := Transfers.shareTokN fullShare c
abbrev tileShare (c j : ℕ) : PosShare TreeShare := Transfers.shareTokN (scShare c) j

theorem outBlock_set (i : grid0.Coords) (out : Memref sig .scVector .hbm S2097152 .i32) (p : S2097152.Idx) :
    out.view.emb p ∈ (outBlock i out).view.set ↔ p ∈ blk (i 0).val (i 1).val := by
  have hs : (outBlock i out).view.set = ((Rect.unit (s := S2097152) (k0_off36 i) S65536.size (k0_off36_inb i)).set).map out.view.emb := View.set_slice (v := out.view) _
  rw [hs, Finset.mem_map' , Rect.mem_set_unit]
  unfold blk
  rw [Finset.mem_filter]
  have hp : (p 0).val < 2097152 := (p 0).isLt
  have h0 : (i 0).val < 2 := (i 0).isLt
  have h1 : (i 1).val < 16 := (i 1).isLt
  have h36 := k0_off36_eq i
  constructor
  · intro h
    have := h 0
    rw [h36] at this
    have e1 : (![131072 * (i 1).val + 65536 * (i 0).val] : Fin 1 → ℕ) 0 = 131072 * (i 1).val + 65536 * (i 0).val := rfl
    have e2 : S65536.size 0 = 65536 := rfl
    rw [e1, e2] at this
    exact ⟨Finset.mem_univ _, by omega⟩
  · rintro ⟨-, h⟩ a
    obtain rfl : a = 0 := Subsingleton.elim _ _
    rw [h36]
    have e1 : (![131072 * (i 1).val + 65536 * (i 0).val] : Fin 1 → ℕ) 0 = 131072 * (i 1).val + 65536 * (i 0).val := rfl
    have e2 : S65536.size 0 = 65536 := rfl
    rw [e1, e2]
    omega

/-- A tile's finished table is its block of all the tables. -/
theorem table_at (i : grid0.Coords) (hit : BitVec 32 → ℕ → Bool) (w : S4096x4096.Idx → BitVec 32) (X : ℕ → BitVec 32)
    (hX : ∀ e, X e = w (elt (base i) e)) (y : S65536.Idx) (p : S2097152.Idx) (hp : (p 0).val = 131072 * (i 1).val + 65536 * (i 0).val + (y 0).val) :
    Hist.hist place hit X 524288 y = tables hit w p := by
  have hy : (y 0).val < 65536 := (y 0).isLt
  have h0 : (i 0).val < 2 := (i 0).isLt
  have h1 : (i 1).val < 16 := (i 1).isLt
  have hX' : X = fun e => w (elt (base i) e) := funext hX
  unfold Hist.hist tables place base at *
  subst hX'
  rw [hp, show (131072 * (i 1).val + 65536 * (i 0).val + (y 0).val) / 65536 = 2 * (i 1).val + (i 0).val by omega,
    show (131072 * (i 1).val + 65536 * (i 0).val + (y 0).val) % 65536 = (y 0).val by omega,
    show 128 * (2 * (i 1).val + (i 0).val) = 256 * (i 1).val + 128 * (i 0).val by omega]

/-- Where entry `y` of a tile's block lies among all the tables. -/
theorem block_emb (i : grid0.Coords) (y : S65536.Idx) :
    (((Rect.unit (s := S2097152) (k0_off36 i) S65536.size (k0_off36_inb i)).emb y) 0).val = 131072 * (i 1).val + 65536 * (i 0).val + (y 0).val := by
  have h36 : k0_off36 i 0 = 131072 * (i 1).val + 65536 * (i 0).val := by rw [k0_off36_eq]; rfl
  show k0_off36 i 0 + 1 * (y 0).val = _
  rw [h36, Nat.one_mul]

section
variable [FloatOps F] (d : Dev nD) (L : grid0.Coords)

local notation "TH" => (V d (cV L) (jV L) : Thread nD τ)

theorem sems0 (s1 s2 s3 : SemLoc sig) (h1 : s1.isScoped .scVector = true) (h2 : s2.isScoped .scVector = true) (h3 : s3.isScoped .scVector = true)
    (h12 : s2 ≠ s1) (h13 : s3 ≠ s1) (h23 : s3 ≠ s2) :
    (scopedSems0 (V d (cV L) (jV L)) : sProp 𝕄)
      = iprop(semVal (TH, s1) 0 ∗ semVal (TH, s2) 0 ∗ semVal (TH, s3) 0
          ∗ bigSep ((((ownCells TH).erase (TH, s1)).erase (TH, s2)).erase (TH, s3)) fun g => semVal g 0) := by
  rw [SparseCore.Cfg.scopedSems0_V (Val := Elt F) d (cV L) (jV L)]
  unfold SparseCore.Cfg.ownSems0
  have ne : ∀ {s t : SemLoc sig}, s ≠ t → ((TH, s) : GSem nD τ sig) ≠ (TH, t) := fun h e => h (Prod.mk.inj e).2
  have m1 : (TH, s1) ∈ ownCells TH := (mem_ownCells (g := (TH, s1))).mpr ⟨rfl, h1⟩
  have m2 : (TH, s2) ∈ (ownCells TH).erase (TH, s1) := Finset.mem_erase.mpr ⟨ne h12, (mem_ownCells (g := (TH, s2))).mpr ⟨rfl, h2⟩⟩
  have m3 : (TH, s3) ∈ ((ownCells TH).erase (TH, s1)).erase (TH, s2) :=
    Finset.mem_erase.mpr ⟨ne h23, Finset.mem_erase.mpr ⟨ne h13, (mem_ownCells (g := (TH, s3))).mpr ⟨rfl, h3⟩⟩⟩
  rw [SparseCore.bigSep_erase' m1, SparseCore.bigSep_erase' m2, SparseCore.bigSep_erase' m3]

theorem bufs0 (r1 r2 r3 : Ref sig .scVector) (h1 : ((Proc.scVector (cV L) (jV L)).devRef r1).owner = .proc (.scVector (cV L) (jV L)))
    (h2 : ((Proc.scVector (cV L) (jV L)).devRef r2).owner = .proc (.scVector (cV L) (jV L))) (h3 : ((Proc.scVector (cV L) (jV L)).devRef r3).owner = .proc (.scVector (cV L) (jV L)))
    (h12 : r2 ≠ r1) (h13 : r3 ≠ r1) (h23 : r3 ≠ r2) :
    (scopedBufs (V d (cV L) (jV L)) : sProp 𝕄)
      = iprop((∃ f, (TH).loc r1 ↦{fullShare} f) ∗ (∃ f, (TH).loc r2 ↦{fullShare} f) ∗ (∃ f, (TH).loc r3 ↦{fullShare} f)
          ∗ bigSep ((((ownRefs (τ := τ) (.scVector (cV L) (jV L))).erase ((Proc.scVector (cV L) (jV L)).devRef r1)).erase
              ((Proc.scVector (cV L) (jV L)).devRef r2)).erase ((Proc.scVector (cV L) (jV L)).devRef r3))
              fun b => iprop(∃ f, ((d, b) : Loc nD τ sig) ↦{fullShare} f)) := by
  rw [(K (F := F)).scopedBufs_V facts d (cV L) (jV L)]
  unfold SparseCore.Cfg.ownBufs
  have ne : ∀ {s t : Ref sig .scVector}, s ≠ t → (Proc.scVector (cV L) (jV L)).devRef s ≠ (Proc.scVector (cV L) (jV L)).devRef t := fun h e => h (Proc.devRef_injective _ e)
  have m1 := SparseCore.Cfg.mem_ownRefs_of_owner (p := Proc.scVector (cV L) (jV L)) h1
  have m2 := Finset.mem_erase.mpr ⟨ne h12, SparseCore.Cfg.mem_ownRefs_of_owner (p := Proc.scVector (cV L) (jV L)) h2⟩
  have m3 := Finset.mem_erase.mpr ⟨ne h23, Finset.mem_erase.mpr ⟨ne h13, SparseCore.Cfg.mem_ownRefs_of_owner (p := Proc.scVector (cV L) (jV L)) h3⟩⟩
  rw [SparseCore.bigSep_erase' m1, SparseCore.bigSep_erase' m2, SparseCore.bigSep_erase' m3]

theorem sems2 (s1 s2 s3 s4 : SemLoc sig) (h1 : s1.isScoped .scVector = true) (h2 : s2.isScoped .scVector = true) (h3 : s3.isScoped .scVector = true) (h4 : s4.isScoped .scVector = true)
    (h12 : s2 ≠ s1) (h13 : s3 ≠ s1) (h23 : s3 ≠ s2) (h14 : s4 ≠ s1) (h24 : s4 ≠ s2) (h34 : s4 ≠ s3) :
    (scopedSems0 (V d (cV L) (jV L)) : sProp 𝕄)
      = iprop(semVal (TH, s1) 0 ∗ semVal (TH, s2) 0 ∗ semVal (TH, s3) 0 ∗ semVal (TH, s4) 0
          ∗ bigSep (((((ownCells TH).erase (TH, s1)).erase (TH, s2)).erase (TH, s3)).erase (TH, s4)) fun g => semVal g 0) := by
  have ne : ∀ {s t : SemLoc sig}, s ≠ t → ((TH, s) : GSem nD τ sig) ≠ (TH, t) := fun h e => h (Prod.mk.inj e).2
  rw [sems0 d L s1 s2 s3 h1 h2 h3 h12 h13 h23]
  rw [SparseCore.bigSep_erase' (Finset.mem_erase.mpr ⟨ne h34, Finset.mem_erase.mpr ⟨ne h24, Finset.mem_erase.mpr ⟨ne h14, (mem_ownCells (g := (TH, s4))).mpr ⟨rfl, h4⟩⟩⟩⟩)]

theorem bufs2 (r1 r2 r3 r4 : Ref sig .scVector) (h1 : ((Proc.scVector (cV L) (jV L)).devRef r1).owner = .proc (.scVector (cV L) (jV L)))
    (h2 : ((Proc.scVector (cV L) (jV L)).devRef r2).owner = .proc (.scVector (cV L) (jV L))) (h3 : ((Proc.scVector (cV L) (jV L)).devRef r3).owner = .proc (.scVector (cV L) (jV L)))
    (h4 : ((Proc.scVector (cV L) (jV L)).devRef r4).owner = .proc (.scVector (cV L) (jV L)))
    (h12 : r2 ≠ r1) (h13 : r3 ≠ r1) (h23 : r3 ≠ r2) (h14 : r4 ≠ r1) (h24 : r4 ≠ r2) (h34 : r4 ≠ r3) :
    (scopedBufs (V d (cV L) (jV L)) : sProp 𝕄)
      = iprop((∃ f, (TH).loc r1 ↦{fullShare} f) ∗ (∃ f, (TH).loc r2 ↦{fullShare} f) ∗ (∃ f, (TH).loc r3 ↦{fullShare} f) ∗ (∃ f, (TH).loc r4 ↦{fullShare} f)
          ∗ bigSep (((((ownRefs (τ := τ) (.scVector (cV L) (jV L))).erase ((Proc.scVector (cV L) (jV L)).devRef r1)).erase
              ((Proc.scVector (cV L) (jV L)).devRef r2)).erase ((Proc.scVector (cV L) (jV L)).devRef r3)).erase ((Proc.scVector (cV L) (jV L)).devRef r4))
              fun b => iprop(∃ f, ((d, b) : Loc nD τ sig) ↦{fullShare} f)) := by
  have ne : ∀ {s t : Ref sig .scVector}, s ≠ t → (Proc.scVector (cV L) (jV L)).devRef s ≠ (Proc.scVector (cV L) (jV L)).devRef t := fun h e => h (Proc.devRef_injective _ e)
  rw [bufs0 d L r1 r2 r3 h1 h2 h3 h12 h13 h23]
  rw [SparseCore.bigSep_erase' (Finset.mem_erase.mpr ⟨ne h34, Finset.mem_erase.mpr ⟨ne h24, Finset.mem_erase.mpr ⟨ne h14, SparseCore.Cfg.mem_ownRefs_of_owner (p := Proc.scVector (cV L) (jV L)) h4⟩⟩⟩)]

/-- What a tile's task of the first pass is handed and hands back: its share of the words, its block of the tables. -/
def task0 (d : Dev nD) (c j : ℕ) (w : S4096x4096.Idx → BitVec 32) (g : S2097152.Idx → BitVec 32) : sProp 𝕄 :=
  iprop((xLoc d ↦{tileShare c j} w) ∗ (oLoc0 d ↦[blk c j]{fullShare} g))

/-- The same of the second pass, with its share of the state. -/
def task2 (d : Dev nD) (c j : ℕ) (w : S4096x4096.Idx → BitVec 32) (st : S8x128.Idx → BitVec 32) (g : S2097152.Idx → BitVec 32) : sProp 𝕄 :=
  iprop((xLoc d ↦{tileShare c j} w) ∗ (sLoc d ↦{tileShare c j} st) ∗ (oLoc2 d ↦[blk c j]{fullShare} g))

abbrev xM : Memref sig .scVector .hbm S4096x4096 .i32 := Memref.whole main_arg1_scv
abbrev oM0 : Memref sig .scVector .hbm S2097152 .i32 := Memref.whole main_v0_scv
abbrev oM2 : Memref sig .scVector .hbm S2097152 .i32 := Memref.whole main_v3_scv
abbrev sM : Memref sig .scVector .hbm S8x128 .i32 := Memref.whole main_v2_scv

theorem blk_set0 : ((outBlock L oM0).view.set : Finset S2097152.Idx) = blk (L 0).val (L 1).val := by
  ext p; exact outBlock_set L oM0 p
theorem blk_set2 : ((outBlock L oM2).view.set : Finset S2097152.Idx) = blk (L 0).val (L 1).val := by
  ext p; exact outBlock_set L oM2 p

/-- The first pass's task: its tile's table of the high halves. -/
theorem wp_body0 (O : CellTallies nD τ sig (HIx 2)) (W : Waits sig (HIx 2)) (hO : ∀ g, O g none = 0)
    (w : S4096x4096.Idx → BitVec 32) (g : S2097152.Idx → BitVec 32) :
    iprop(levAts (K (F := F)).L (K (F := F)).lev ∗ emp ∗ task0 (F := F) d (L 0).val (L 1).val w g
        ∗ scopedBufs TH ∗ scopedSems0 TH ∗ owes TH O W)
      ⊢ wp frame (wpE (defs₀ (F := F)) 𝒱₀ TH none) Set.univ
          (cc0__hist_body L xM (Memref.isWhole_whole _) oM0 (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0)
          fun _ => iprop(task0 (F := F) d (L 0).val (L 1).val w (tables hit0 w) ∗ scopedBufs TH ∗ scopedSems0 TH ∗ Owe TH O W) := by
  rw [body0_eq, bufs0 d L cc0_scratch0 cc0_scratch1 cc0_scratch2 rfl rfl rfl (by decide) (by decide) (by decide),
    sems0 d L (.dma cc0_scratch3.sem) (.dma cc0_scratch4.sem) (.dma cc0_scoped0.sem) (by decide) (by decide) (by decide) (by decide) (by decide) (by decide)]
  unfold task0 body0
  iintro ⟨#Hlv, -, ⟨Hx, Ho⟩, ⟨⟨%fA, HA⟩, ⟨%fB, HB⟩, ⟨%fh, Hh⟩, Hbufs⟩, ⟨HsA, HsB, HsC, Hsems⟩, HO⟩
  ihave #Hmw := (show levAts (K (F := F)).L (K (F := F)).lev ⊢ Transfers.MayWaits TH (default : HIx 2) O from
    (K (F := F)).mayWaits_none (thr := TH) hO) $$ Hlv
  iapply (clear_spec (F := F) d (Memref.whole cc0_scratch2) hit0 (words xM (w : xM.view.ty.Contents (Elt F)) L) _ _ fh) $$ Hh
  iintro %f Hh %hf
  ihave Hx' := (pointsTo_share (PosShare.mem_left_op_right (tileShare (L 0).val (L 1).val))).1 $$ Hx
  icases Hx' with ⟨HxA, HxB⟩
  iapply (blocks_spec (F := F) d L enter0 hit0 counts0 xM (Memref.whole cc0_scratch0) (Memref.isWhole_whole _) (Memref.whole cc0_scratch1) (Memref.isWhole_whole _)
    (Memref.whole cc0_scratch2) (Memref.isWhole_whole _) cc0_scratch3 cc0_scratch4 (tileShare (L 0).val (L 1).val).left (tileShare (L 0).val (L 1).val).right w O W _ _ fA fB) $$ [HxA HxB HA HB HsA HsB Hh HO]
  · isplitr; · iexact Hmw
    isplitl [HA]; · iexact HA
    isplitl [HB]; · iexact HB
    isplitl [HsA]; · iexact HsA
    isplitl [HsB]; · iexact HsB
    isplitl [HxA]; · iexact HxA
    isplitl [HxB]; · iexact HxB
    isplitl [Hh]
    · unfold Table
      iexists f
      isplitl [Hh]; · iexact Hh
      ipureintro; exact hf
    · unfold Owe
      iexists W
      isplitr; · ipureintro; exact fun p hp => .inl hp
      iexact HO
  unfold Table
  iintro ⟨HA, HB, HsA, HsB, HxA, HxB, ⟨%f', Hh, %hf'⟩, HO⟩
  ihave Hx := (pointsTo_share (PosShare.mem_left_op_right (tileShare (L 0).val (L 1).val))).2 $$ [HxA HxB]
  · isplitl [HxA]; · iexact HxA
    iexact HxB
  ihave Ho := (Entails.of_eq (show (oLoc0 d ↦[blk (L 0).val (L 1).val]{fullShare} g : sProp 𝕄) = ((outBlock L oM0).view.loc TH ↦[(outBlock L oM0).view.set]{fullShare} g) by rw [← blk_set0 L])) $$ Ho
  iapply (copyOut_spec (F := F) d L (Memref.whole cc0_scratch2) (Memref.isWhole_whole _) oM0 cc0_scoped0 f' g (tables hit0 w) ?hG O W) $$ [Hh Ho HsC HO]
  case hG =>
    rw [hf']
    funext y
    exact table_at L hit0 w _ (fun _ => rfl) y _ (block_emb L y)
  · isplitr; · iexact Hmw
    isplitl [Hh]; · iexact Hh
    isplitl [Ho]; · iexact Ho
    isplitl [HsC]; · iexact HsC
    iexact HO
  iintro ⟨Hh, Ho, HsC, HO⟩
  ihave Ho := (Entails.of_eq (show ((outBlock L oM0).view.loc TH ↦[(outBlock L oM0).view.set]{fullShare} (tables hit0 w) : sProp 𝕄) = (oLoc0 d ↦[blk (L 0).val (L 1).val]{fullShare} tables hit0 w) by rw [← blk_set0 L])) $$ Ho
  isplitl [Hx Ho]
  · isplitl [Hx]; · iexact Hx
    iexact Ho
  isplitl [HA HB Hh Hbufs]
  · isplitl [HA]; · iexact HA
    isplitl [HB]; · iexact HB
    isplitl [Hh]; · iexists f'; iexact Hh
    iexact Hbufs
  isplitl [HsA HsB HsC Hsems]
  · isplitl [HsA]; · iexact HsA
    isplitl [HsB]; · iexact HsB
    isplitl [HsC]; · iexact HsC
    iexact Hsems
  iexact HO

/-- The state's row read by the second pass is row 0. -/
theorem row_zero (y : S128.Idx) : ((show S8x128.Idx from (stateRow sM).view.emb y) 0).val = 0 := by
  have h : ((show S8x128.Idx from (stateRow sM).view.emb y) 0).val
      = 0 + 1 * ((Shape.reshapeEquiv (s := S1x128) (s' := S128) (by decide) y) 0).val := rfl
  have h' : ((Shape.reshapeEquiv (s := S1x128) (s' := S128) (by decide) y) 0).val < 1 := ((Shape.reshapeEquiv (s := S1x128) (s' := S128) (by decide) y) 0).isLt
  omega

/-- The second pass's task: its tile's table of the words whose high half is the prefix that row 0 of the state holds. -/
theorem wp_body2 (O : CellTallies nD τ sig (HIx 2)) (W : Waits sig (HIx 2)) (hO : ∀ g, O g none = 0)
    (w : S4096x4096.Idx → BitVec 32) (st : S8x128.Idx → BitVec 32) (p : BitVec 32) (hp : ∀ z : S8x128.Idx, (z 0).val = 0 → st z = p) (g : S2097152.Idx → BitVec 32) :
    iprop(levAts (K (F := F)).L (K (F := F)).lev ∗ emp ∗ task2 (F := F) d (L 0).val (L 1).val w st g
        ∗ scopedBufs TH ∗ scopedSems0 TH ∗ owes TH O W)
      ⊢ wp frame (wpE (defs₀ (F := F)) 𝒱₀ TH none) Set.univ
          (cc2__hist_body L xM (Memref.isWhole_whole _) sM (Memref.isWhole_whole _) oM2 (Memref.isWhole_whole _) (Memref.whole cc2_scratch0) (Memref.isWhole_whole _)
            (Memref.whole cc2_scratch1) (Memref.isWhole_whole _) (Memref.whole cc2_scratch2) (Memref.isWhole_whole _) (Memref.whole cc2_scratch3) (Memref.isWhole_whole _) cc2_scratch4 cc2_scratch5 cc2_scoped0 cc2_scoped1)
          fun _ => iprop(task2 (F := F) d (L 0).val (L 1).val w st (tables (hit2 p) w) ∗ scopedBufs TH ∗ scopedSems0 TH ∗ Owe TH O W) := by
  rw [body2_eq, bufs2 d L cc2_scratch0 cc2_scratch1 cc2_scratch2 cc2_scratch3 rfl rfl rfl rfl (by decide) (by decide) (by decide) (by decide) (by decide) (by decide),
    sems2 d L (.dma cc2_scratch4.sem) (.dma cc2_scratch5.sem) (.dma cc2_scoped0.sem) (.dma cc2_scoped1.sem) (by decide) (by decide) (by decide) (by decide) (by decide) (by decide) (by decide) (by decide) (by decide) (by decide)]
  unfold task2 body2
  iintro ⟨#Hlv, -, ⟨Hx, Hst, Ho⟩, ⟨⟨%fA, HA⟩, ⟨%fB, HB⟩, ⟨%fh, Hh⟩, ⟨%fr, Hr⟩, Hbufs⟩, ⟨HsA, HsB, HsR, HsC, Hsems⟩, HO⟩
  ihave #Hmw := (show levAts (K (F := F)).L (K (F := F)).lev ⊢ Transfers.MayWaits TH (default : HIx 2) O from
    (K (F := F)).mayWaits_none (thr := TH) hO) $$ Hlv
  iapply (clear_spec (F := F) d (Memref.whole cc2_scratch2) (hit2 p) (words xM (w : xM.view.ty.Contents (Elt F)) L) _ _ fh) $$ Hh
  iintro %f Hh %hf
  iapply (readState_spec (F := F) d sM (Memref.whole cc2_scratch3) (Memref.isWhole_whole _) cc2_scoped0 (tileShare (L 0).val (L 1).val) st fr p (fun y => hp _ (row_zero y)) O W _ _) $$ [Hst Hr HsR HO]
  · isplitr; · iexact Hmw
    isplitl [Hst]; · iexact Hst
    isplitl [Hr]; · iexact Hr
    isplitl [HsR]; · iexact HsR
    unfold Owe
    iexists W
    isplitr; · ipureintro; exact fun p hp => .inl hp
    iexact HO
  iintro %fr' %pre %hpre Hst Hr HsR HO
  ihave Hx' := (pointsTo_share (PosShare.mem_left_op_right (tileShare (L 0).val (L 1).val))).1 $$ Hx
  icases Hx' with ⟨HxA, HxB⟩
  iapply (blocks_spec (F := F) d L (enter2 pre) (hit2 p) (counts2 pre p hpre) xM (Memref.whole cc2_scratch0) (Memref.isWhole_whole _) (Memref.whole cc2_scratch1) (Memref.isWhole_whole _)
    (Memref.whole cc2_scratch2) (Memref.isWhole_whole _) cc2_scratch4 cc2_scratch5 (tileShare (L 0).val (L 1).val).left (tileShare (L 0).val (L 1).val).right w O W _ _ fA fB) $$ [HxA HxB HA HB HsA HsB Hh HO]
  · isplitr; · iexact Hmw
    isplitl [HA]; · iexact HA
    isplitl [HB]; · iexact HB
    isplitl [HsA]; · iexact HsA
    isplitl [HsB]; · iexact HsB
    isplitl [HxA]; · iexact HxA
    isplitl [HxB]; · iexact HxB
    isplitl [Hh]
    · unfold Table
      iexists f
      isplitl [Hh]; · iexact Hh
      ipureintro; exact hf
    · iexact HO
  unfold Table
  iintro ⟨HA, HB, HsA, HsB, HxA, HxB, ⟨%f', Hh, %hf'⟩, HO⟩
  ihave Hx := (pointsTo_share (PosShare.mem_left_op_right (tileShare (L 0).val (L 1).val))).2 $$ [HxA HxB]
  · isplitl [HxA]; · iexact HxA
    iexact HxB
  ihave Ho := (Entails.of_eq (show (oLoc2 d ↦[blk (L 0).val (L 1).val]{fullShare} g : sProp 𝕄) = ((outBlock L oM2).view.loc TH ↦[(outBlock L oM2).view.set]{fullShare} g) by rw [← blk_set2 L])) $$ Ho
  iapply (copyOut_spec (F := F) d L (Memref.whole cc2_scratch2) (Memref.isWhole_whole _) oM2 cc2_scoped1 f' g (tables (hit2 p) w) ?hG O W) $$ [Hh Ho HsC HO]
  case hG =>
    rw [hf']
    funext y
    exact table_at L (hit2 p) w _ (fun _ => rfl) y _ (block_emb L y)
  · isplitr; · iexact Hmw
    isplitl [Hh]; · iexact Hh
    isplitl [Ho]; · iexact Ho
    isplitl [HsC]; · iexact HsC
    iexact HO
  iintro ⟨Hh, Ho, HsC, HO⟩
  ihave Ho := (Entails.of_eq (show ((outBlock L oM2).view.loc TH ↦[(outBlock L oM2).view.set]{fullShare} (tables (hit2 p) w) : sProp 𝕄) = (oLoc2 d ↦[blk (L 0).val (L 1).val]{fullShare} tables (hit2 p) w) by rw [← blk_set2 L])) $$ Ho
  isplitl [Hx Hst Ho]
  · isplitl [Hx]; · iexact Hx
    isplitl [Hst]; · iexact Hst
    iexact Ho
  isplitl [HA HB Hh Hr Hbufs]
  · isplitl [HA]; · iexact HA
    isplitl [HB]; · iexact HB
    isplitl [Hh]; · iexists f'; iexact Hh
    isplitl [Hr]; · iexists fr'; iexact Hr
    iexact Hbufs
  isplitl [HsA HsB HsR HsC Hsems]
  · isplitl [HsA]; · iexact HsA
    isplitl [HsB]; · iexact HsB
    isplitl [HsR]; · iexact HsR
    isplitl [HsC]; · iexact HsC
    iexact Hsems
  iexact HO

end

end Cert.Proof.Run

end
-- ==== Proof.Select.lean ====
/-
  The bodies of the three TensorCore calls: what each leaves in its result's staging buffer, as a function of what
  its operands' staging buffers hold.
-/
module

public import proofs.«01_k».proof.Proof.Setup
public import proofs.«01_k».proof.Proof.Gen.KernelIdeal.Skeleton
public import Idealize.ShloMosaic.Lib.VecWindow

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The prefix the first selection leaves: the number of cells whose running total is below the target. -/
def prefix1 (h : Vec F S32x512x128 .i32) : BitVec 32 :=
  Scalar.addi (Scalar.muli 0#32 1#32) (extractAt ![0, 0, 0] (k1_pay4 h) inpos_S1x1x1_p0_0_0)

/-- The state the first selection leaves from the tables `h`. -/
def sel1 (h : Vec F S32x512x128 .i32) : Vec F S8x128 .i32 :=
  k1_pay1 (Scalar.fptosi 32 (k1_pay5 h)) (prefix1 h) (iota .tc S8x128 32 [0] iota_S8x128_d0_w32) 0#32

/-- Row `0` and row `1` of the state, each at its first lane. -/
def stCell0 (st : Vec F S8x128 .i32) : Vec F S1x1 .i32 := fun x => st ((Rect.unit (s := S8x128) ![0, 0] S1x1.size inb_S8x128_S1x1_0_0).emb x)
def stCell1 (st : Vec F S8x128 .i32) : Vec F S1x1 .i32 := fun x => st ((Rect.unit (s := S8x128) ![1, 0] S1x1.size inb_S8x128_S1x1_1_0).emb x)

/-- The one index of a `1×1` vector. -/
def unitIdx : S1x1.Idx := fun a => ⟨0, by fin_cases a <;> decide⟩

theorem eq_unitIdx (x : S1x1.Idx) : x = unitIdx := by
  funext a
  apply Fin.ext
  have h := (x a).isLt
  have h' := (unitIdx a).isLt
  have : S1x1.size a = 1 := by fin_cases a <;> rfl
  omega

/-- The state the second selection leaves from the tables `h` and the state `st`. -/
def sel2 (h : Vec F S32x512x128 .i32) (st : Vec F S8x128 .i32) : Vec F S8x128 .i32 :=
  k3_pay1 (extractAt ![0, 0] (stCell0 st) inpos_S1x1_p0_0) (extractAt ![0, 0, 0] (k3_pay5 h (stCell1 st)) inpos_S1x1x1_p0_0_0) (k3_pay6 h (stCell1 st))

section
variable (c : Dev nD)

local notation "Wp" => wp frame (wpE (defs₀ (F := F)) 𝒱₀ (c : Thread nD τ) none) Set.univ

/-- A load from an owned whole memref continues at what it holds there. -/
theorem load_owned {cs : CoreSpace} {s : Shape} {e : EltTy} (m : Memref sig .tc cs s e) (hm : m.IsWhole) (r : Rect s) (hl : m.view.LoadsAt r.toLoadRect) (X : s.Idx → Elt F e)
    {α : Type} (k : (r.shape.Idx → Elt F e) → Prog (TpuEff nD τ sig (Elt F) Λ₀ .tc) α) (Q : α → sProp 𝕄) :
    (owns (c : Thread nD τ) m fullShare X : sProp 𝕄)
      ⊢ iprop((owns (c : Thread nD τ) m fullShare X -∗ Wp (k fun x => X (r.emb x)) Q) -∗ Wp (.op (.load m r.toLoadRect hl) k) Q) := by
  unfold owns
  rw [hm.set_eq_univ]
  iintro ⟨%f, %hf, H⟩ Hk
  iapply (wp_load_rect (defs := defs₀ (F := F)) 𝒱₀ (c : Thread nD τ) none Set.univ (m := m) (r := r) (f := f) (Finset.subset_univ _)) $$ H
  iintro H
  subst hf
  iapply Hk
  iexists f
  isplitr; · ipureintro; rfl
  iexact H

/-- A store of a whole vector leaves the memref holding it. -/
theorem store_owned {cs : CoreSpace} {s : Shape} {e : EltTy} (m : Memref sig .tc cs s e) (hm : m.IsWhole) {off : Fin s.rank → ℕ} (inb : ∀ a, off a + s.size a ≤ s.size a)
    (w : s.Idx → Elt F e) (hx : (m.access (Rect.unit off s.size inb)).Stores Finset.univ) (hmk) (X : s.Idx → Elt F e)
    {α : Type} (k : PUnit → Prog (TpuEff nD τ sig (Elt F) Λ₀ .tc) α) (Q : α → sProp 𝕄) :
    (owns (c : Thread nD τ) m fullShare X : sProp 𝕄)
      ⊢ iprop((owns (c : Thread nD τ) m fullShare w -∗ Wp (k ⟨⟩) Q) -∗ Wp (.op (.store m (Rect.unit off s.size inb) w Finset.univ hx hmk) k) Q) := by
  unfold owns
  rw [hm.set_eq_univ]
  iintro ⟨%f, %hf, H⟩ Hk
  iapply (wp_store (defs := defs₀ (F := F)) 𝒱₀ (c : Thread nD τ) none Set.univ (m := m) (r := Rect.unit off s.size inb) (f := f) (Finset.subset_univ _)) $$ H
  iintro H
  iapply Hk
  iexists _
  isplitr
  swap; · iexact H
  ipureintro
  funext x
  have := View.read_slice_write_emb (v := m.view) (Rect.unit off s.size inb) f w (Finset.mem_univ x)
  rwa [Rect.emb_unit_full] at this

theorem read_full {s : Shape} {e : EltTy} {off : Fin s.rank → ℕ} (inb : ∀ a, off a + s.size a ≤ s.size a) (X : s.Idx → Elt F e) :
    (fun x => X ((Rect.unit off s.size inb).emb x)) = X := funext fun x => by rw [Rect.emb_unit_full]

set_option maxRecDepth 65536 in
/-- The first selection. -/
theorem select1_run (M0 : Memref sig .tc .vmem S32x512x128 .i32) (h0 : M0.IsWhole) (M1 : Memref sig .tc .vmem S8x128 .i32) (h1 : M1.IsWhole)
    (X : S32x512x128.Idx → Elt F .i32) (Y : S8x128.Idx → Elt F .i32) (Q : PUnit → sProp 𝕄) :
    iprop(owns (c : Thread nD τ) M0 fullShare X ∗ owns (c : Thread nD τ) M1 fullShare Y
        ∗ (iprop(owns (c : Thread nD τ) M0 fullShare X ∗ owns (c : Thread nD τ) M1 fullShare (sel1 X)) -∗ Q ⟨⟩))
      ⊢ Wp (cc1__select_body M0 h0 M1 h1) Q := by
  rw [cc1__select_body_eq_skeleton]
  unfold cc1__select_body_skel
  rw [k1_part1_eq_skeleton]
  unfold k1_part1_skel
  simp only [Prog.lift, Prog.bind_op, Prog.bind_ret, Prog.pure_eq_ret]
  iintro ⟨H0, H1, Hk⟩
  iapply (load_owned c M0 h0 _ _ X) $$ H0
  iintro H0
  rw [read_full]
  iapply (load_owned c M1 h1 _ _ Y) $$ H1
  iintro H1
  iapply (store_owned c M1 h1 _ _ _ _ Y) $$ H1
  iintro H1
  rw [wp_ret]
  imodintro
  iapply Hk
  isplitl [H0]; · iexact H0
  iexact H1

set_option maxRecDepth 65536 in
/-- The second selection. -/
theorem select2_run (M0 : Memref sig .tc .vmem S32x512x128 .i32) (h0 : M0.IsWhole) (M1 : Memref sig .tc .vmem S8x128 .i32) (h1 : M1.IsWhole) (M2 : Memref sig .tc .vmem S8x128 .i32) (h2 : M2.IsWhole)
    (X : S32x512x128.Idx → Elt F .i32) (st Y : S8x128.Idx → Elt F .i32) (Q : PUnit → sProp 𝕄) :
    iprop(owns (c : Thread nD τ) M0 fullShare X ∗ owns (c : Thread nD τ) M1 fullShare st ∗ owns (c : Thread nD τ) M2 fullShare Y
        ∗ (iprop(owns (c : Thread nD τ) M0 fullShare X ∗ owns (c : Thread nD τ) M1 fullShare st ∗ owns (c : Thread nD τ) M2 fullShare (sel2 X st)) -∗ Q ⟨⟩))
      ⊢ Wp (cc3__select_body M0 h0 M1 h1 M2 h2) Q := by
  rw [cc3__select_body_eq_skeleton]
  unfold cc3__select_body_skel
  rw [k3_part1_eq_skeleton]
  unfold k3_part1_skel
  simp only [Prog.lift, Prog.bind_op, Prog.bind_ret, Prog.pure_eq_ret]
  iintro ⟨H0, H1, H2, Hk⟩
  iapply (load_owned c M0 h0 _ _ X) $$ H0
  iintro H0
  rw [read_full]
  iapply (load_owned c M1 h1 _ _ st) $$ H1
  iintro H1
  iapply (load_owned c M1 h1 _ _ st) $$ H1
  iintro H1
  iapply (load_owned c M2 h2 _ _ Y) $$ H2
  iintro H2
  iapply (store_owned c M2 h2 _ _ _ _ Y) $$ H2
  iintro H2
  rw [wp_ret]
  imodintro
  iapply Hk
  isplitl [H0]; · iexact H0
  isplitl [H1]; · iexact H1
  iexact H2

set_option maxRecDepth 65536 in
/-- One block of the mask. -/
theorem mask_run (i : grid4.Coords) (M1 : Memref sig .tc .smem S1x1 .i32) (h1 : M1.IsWhole) (M2 : Memref sig .tc .vmem S128x4096 .f32) (h2 : M2.IsWhole)
    (M3 : Memref sig .tc .vmem S128x4096 .i32) (h3 : M3.IsWhole) (M4 : Memref sig .tc .vmem S128x4096 .f32) (h4 : M4.IsWhole)
    (k : S1x1.Idx → Elt F .i32) (w : S128x4096.Idx → Elt F .f32) (x : S128x4096.Idx → Elt F .i32) (Y : S128x4096.Idx → Elt F .f32) (Q : PUnit → sProp 𝕄) :
    iprop(owns (c : Thread nD τ) M1 fullShare k ∗ owns (c : Thread nD τ) M2 fullShare w ∗ owns (c : Thread nD τ) M3 fullShare x ∗ owns (c : Thread nD τ) M4 fullShare Y
        ∗ (iprop(owns (c : Thread nD τ) M1 fullShare k ∗ owns (c : Thread nD τ) M2 fullShare w ∗ owns (c : Thread nD τ) M3 fullShare x
            ∗ owns (c : Thread nD τ) M4 fullShare (k4_pay1 (k unitIdx) x w)) -∗ Q ⟨⟩))
      ⊢ Wp (cc4__mask_body i M1 h1 M2 h2 M3 h3 M4 h4) Q := by
  rw [cc4__mask_body_eq_skeleton]
  unfold cc4__mask_body_skel smemLoad
  simp only [Prog.lift, Prog.bind_op, Prog.bind_ret, Prog.pure_eq_ret]
  iintro ⟨H1, H2, H3, H4, Hk⟩
  iapply (load_owned c M1 h1 _ _ k) $$ H1
  iintro H1
  simp only [Prog.bind_ret]
  rw [eq_unitIdx (Rect.emb _ _)]
  iapply (load_owned c M3 h3 _ _ x) $$ H3
  iintro H3
  rw [read_full]
  iapply (load_owned c M2 h2 _ _ w) $$ H2
  iintro H2
  rw [read_full]
  iapply (load_owned c M4 h4 _ _ Y) $$ H4
  iintro H4
  iapply (store_owned c M4 h4 _ _ _ _ Y) $$ H4
  iintro H4
  rw [wp_ret]
  imodintro
  iapply Hk
  isplitl [H1]; · iexact H1
  isplitl [H2]; · iexact H2
  isplitl [H3]; · iexact H3
  iexact H4

end

end Cert.Proof.Run

end
-- ==== Proof.Regions.lean ====
/-
  The three TensorCore regions: the proof data of each, what its body leaves at every point, and the region as a step
  that takes the arrays of its windows and hands them back with the result at its value.

  A region runs between two SparseCore calls, so the core owes the later calls' signals throughout it; the waits it has
  recorded stay at or below the level the earlier calls reached.
-/
module

public import proofs.«01_k».proof.Proof.Select
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.Pipeline.ValueKit

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.ShloMosaic.Pipeline (Dat BodyObligation BodyObligationLoose RegionSeg PLaunchFacts)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- No pipeline has a table. -/
abbrev adm : (p : Fin 3) → (pcfgs (F := F) p).Adm := fun p => (cfgs p).toPCfg_adm

/-- What the core owes after `n` SparseCore calls. -/
abbrev owedAt (c : Dev nD) (n : ℕ) : CellTallies nD τ sig (HIx 2) := (K (F := F)).Otc (N := 2) c n

/-- The waits recorded after `n` SparseCore calls are at most these. -/
def below (c : Dev nD) (n : ℕ) : Set (SemLoc sig × HIx 2) :=
  {p | (K (F := F)).lev ((c : Thread nD τ), p.1) p.2 ≤ 8 * n}

/-- The core's debts after `n` SparseCore calls, with the waits it has recorded. -/
def Owes (c : Dev nD) (n : ℕ) : sProp 𝕄 :=
  iprop(∃ W, ⌜(K (F := F)).WBelow (c : Thread nD τ) W (8 * n)⌝ ∗ owes (c : Thread nD τ) (owedAt (F := F) c n) W)

theorem owedAt_none (c : Dev nD) (n : ℕ) (g : GSem nD τ sig) : owedAt (F := F) c n g (none : HIx 2) = 0 := by
  by_contra h
  have := SparseCore.Cfg.lev_of_Otc_pos (K := K (F := F)) (Nat.pos_of_ne_zero h)
  rw [SparseCore.Cfg.lev_none] at this
  omega

section Region

variable (pdats : (p : Fin 3) → (c : Dev nD) → Dat τ (Elt F) (HIx 2) ℕ UU ℕ (Pipeline.pin (pcfgs (F := F)) adm p) c) (n : ℕ)

/-- A region of pipeline `p` entered with the core's debts after `n` calls. -/
def region (p : Fin 3) (kit : PLaunchFacts (nD := nD) (τ := τ) (pcfgs (F := F)) p)
    (hK : (pcfgs (F := F) p).pre.K = 0)
    (hbody : ∀ c, BodyObligationLoose (pdats p c) (defs₀ (F := F)) 𝒱₀ (none : HIx 2) Set.univ)
    (howed : ∀ c t, (pdats p c).owed t = owedAt (F := F) c n)
    (hrec : ∀ c t, (pdats p c).recorded t = below (F := F) c n)
    (hΦ : ∀ c t, (pdats p c).Φ t = Pipeline.scopedRest (Pipeline.pin (pcfgs (F := F)) adm p).spec c) :
    RegionSeg (pcfgs (F := F)) adm pdats (none : HIx 2) (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_intro (Pipeline.pin (pcfgs (F := F)) adm) pdats (none : HIx 2) p c fun w s t => by
    rw [howed c t]
    exact (K (F := F)).mayWait_none _ (owedAt_none c n)
  pre c := iprop((pdats p c).arrays ((pdats p c).arrAt · 0) ∗ Owes (F := F) c n)
  post c := iprop((pdats p c).arrays ((pdats p c).arrAt · (Pipeline.pin (pcfgs (F := F)) adm p).N) ∗ Owes (F := F) c n)
  X _ := iprop(emp)
  Y _ := iprop(emp)
  Z _ := iprop(emp)
  hentry c := by
    rw [Pipeline.ownSems0_none, Pipeline.prefHeld_of_none _ hK]
    iintro ⟨⟨Ha, HO⟩, -, -⟩
    imodintro
    isplitl [Ha]; · iexact Ha
    isplitr; · iempintro
    isplitl [HO]
    · unfold Dat.owesAt Pipeline.owesWithin Dat.bound Owes
      rw [howed c 0, hrec c]
      icases HO with ⟨%W, %hW, HO⟩
      iexists W
      isplitr; · ipureintro; exact fun q hq => Or.inl (hW q hq)
      iexact HO
    isplitr <;> iempintro
  hin c := by
    rw [hΦ c]
    iintro ⟨-, -, Hr⟩
    iexact Hr
  hout c := by
    rw [hΦ c, Pipeline.ownSems0_none]
    iintro Hr
    isplitr; · iempintro
    isplitr; · iempintro
    iexact Hr
  hexit c := by
    iintro ⟨Ha, HO, -, -⟩
    imodintro
    isplitl [Ha]; · iexact Ha
    unfold Dat.owesAt Pipeline.owesWithin Dat.bound Owes
    rw [howed c (Fin.last _), hrec c]
    icases HO with ⟨%W, %hW, HO⟩
    iexists W
    isplitr
    · ipureintro
      intro q hq
      rcases hW hq with h | ⟨w, s, rfl⟩
      · exact h
      · rw [SparseCore.Cfg.lev_none]; exact Nat.zero_le _
    iexact HO

end Region

/-! ## The proof data -/

section Data

variable (c : Dev nD) (n : ℕ)

/-- The first selection's: the tables `h` in, the state out. -/
def dat1 (h : S32x512x128.Idx → Elt F .i32) (o : S8x128.Idx → Elt F .i32) : Dat τ (Elt F) (HIx 2) ℕ UU ℕ cfg1 c where
  A w := match w with | ⟨0, _⟩ => h | ⟨1, _⟩ => o
  after w _ := match w with | ⟨0, _⟩ => h | ⟨1, _⟩ => sel1 h
  Φ _ := Pipeline.scopedRest cfg1.spec c
  q _ := fullShare
  owed _ := owedAt (F := F) c n
  recorded _ := below (F := F) c n

/-- The second selection's: the tables `h` and the state `st` in, the state out. -/
def dat3 (h : S32x512x128.Idx → Elt F .i32) (st o : S8x128.Idx → Elt F .i32) : Dat τ (Elt F) (HIx 2) ℕ UU ℕ cfg3 c where
  A w := match w with | ⟨0, _⟩ => h | ⟨1, _⟩ => st | ⟨2, _⟩ => o
  after w _ := match w with | ⟨0, _⟩ => h | ⟨1, _⟩ => st | ⟨2, _⟩ => sel2 h st
  Φ _ := Pipeline.scopedRest cfg3.spec c
  q _ := fullShare
  owed _ := owedAt (F := F) c n
  recorded _ := below (F := F) c n

/-- The word a key stands for. -/
def unkey (k : BitVec 32) : BitVec 32 :=
  Scalar.select (Scalar.cmpi .slt k 0#32) (Scalar.andi k 2147483647#32) (Scalar.xori k 4294967295#32)

/-- The masked weight at a word and a weight, under the key `k`. -/
def maskAt (k x : BitVec 32) (w : F .f32) : F .f32 :=
  Scalar.select (FloatOps.cmpf .olt (FloatOps.ofBits .f32 x : F .f32) (FloatOps.ofBits .f32 (Scalar.addi 0#32 (unkey k)))) (Scalar.ofBits .f32 0x00000000#32) w

set_option maxHeartbeats 1000000 in
theorem mask_pointwise (k : Elt F .i32) (x : S128x4096.Idx → Elt F .i32) (w : S128x4096.Idx → Elt F .f32) (y : S128x4096.Idx) :
    k4_pay1 (F := F) k x w y = maskAt k (x y) (w y) := by
  unfold k4_pay1 maskAt unkey
  rfl

/-- What the mask leaves from the key `k`, the weights `w` and the words `x`. -/
def masked (k : S1x1.Idx → Elt F .i32) (w : S4096x4096.Idx → Elt F .f32) (x : S4096x4096.Idx → Elt F .i32) : S4096x4096.Idx → Elt F .f32 :=
  fun p => maskAt (k unitIdx) (x p) (w p)

/-- Where entry `y` of block `t` lies in the masked array. -/
def row4 (t : Fin grid4.N) (y : S128x4096.Idx) : S4096x4096.Idx := (win4_3.blk t).view.emb y

/-- The mask's: the key, the weights, the words in, the masked weights out. -/
def dat4 (k : S1x1.Idx → Elt F .i32) (w o : S4096x4096.Idx → Elt F .f32) (x : S4096x4096.Idx → Elt F .i32) : Dat τ (Elt F) (HIx 2) ℕ UU ℕ cfg4 c where
  A v := match v with | ⟨0, _⟩ => k | ⟨1, _⟩ => w | ⟨2, _⟩ => x | ⟨3, _⟩ => o
  after v t := match v with
    | ⟨0, _⟩ => k
    | ⟨1, _⟩ => fun y => w (row4 t y)
    | ⟨2, _⟩ => fun y => x (row4 t y)
    | ⟨3, _⟩ => fun y => masked k w x (row4 t y)
  Φ _ := Pipeline.scopedRest cfg4.spec c
  q _ := fullShare
  owed _ := owedAt (F := F) c n
  recorded _ := below (F := F) c n

theorem index1_0 : win1_0.index t1_0 = ![0, 0, 0] := by decide +kernel
theorem index1_1 : win1_1.index t1_0 = ![0, 0] := by decide +kernel
theorem index3_0 : win3_0.index t3_0 = ![0, 0, 0] := by decide +kernel
theorem index3_1 : win3_1.index t3_0 = ![0, 0] := by decide +kernel
theorem index3_2 : win3_2.index t3_0 = ![0, 0] := by decide +kernel

theorem fetched1_0 (h o) (t : Fin cfg1.N) (d) : (dat1 (F := F) c n h o).fetched 0 t d = h := by
  funext y
  refine (show _ = h (((cfg1.win 0).blk t).view.emb y) from rfl).trans (congrArg h ?_)
  rw [fin_N1 t]
  blk_ext [index1_0]
theorem fetched3_0 (h st o) (t : Fin cfg3.N) (d) : (dat3 (F := F) c n h st o).fetched 0 t d = h := by
  funext y
  refine (show _ = h (((cfg3.win 0).blk t).view.emb y) from rfl).trans (congrArg h ?_)
  rw [fin_N3 t]
  blk_ext [index3_0]
theorem fetched3_1 (h st o) (t : Fin cfg3.N) (d) : (dat3 (F := F) c n h st o).fetched 1 t d = st := by
  funext y
  refine (show _ = st (((cfg3.win 1).blk t).view.emb y) from rfl).trans (congrArg st ?_)
  rw [fin_N3 t]
  blk_ext [index3_1]

theorem before1_0 (h o) (t : Fin cfg1.N) (d) : (dat1 (F := F) c n h o).before 0 t d = h := by
  unfold Dat.before
  rw [if_pos (fetch1_0 t)]
  exact fetched1_0 c n _ _ t d

theorem before3_0 (h st o) (t : Fin cfg3.N) (d) : (dat3 (F := F) c n h st o).before 0 t d = h := by
  unfold Dat.before
  rw [if_pos (fetch3_0 t)]
  exact fetched3_0 c n _ _ _ t d
theorem before3_1 (h st o) (t : Fin cfg3.N) (d) : (dat3 (F := F) c n h st o).before 1 t d = st := by
  unfold Dat.before
  rw [if_pos (fetch3_1 t)]
  exact fetched3_1 c n _ _ _ t d

theorem read_unit (t : Fin cfg4.N) (k : S1x1.Idx → Elt F .i32) : ((cfg4.win 0).blk t).view.read (Elt F) k = k := by
  funext y
  show k (((cfg4.win 0).blk t).view.emb y) = k y
  rw [eq_unitIdx y, eq_unitIdx (((cfg4.win 0).blk t).view.emb _)]

theorem before4_0 (k w o x) (t : Fin cfg4.N) (d) : (dat4 (F := F) c n k w o x).before 0 t d = k := by
  exact ((dat4 (F := F) c n k w o x).before_in_eq_fetched 0 rfl (fun _ => rfl) (fun _ _ _ => rfl) (fun t => (read_unit t k).symm) t d).trans (read_unit t k)
theorem before4_1 (k w o x) (t : Fin cfg4.N) (d) : (dat4 (F := F) c n k w o x).before 1 t d = fun y => w (row4 t y) := by
  unfold Dat.before
  rw [if_pos (fetch4_1 t)]
  funext y
  exact congrArg w (show (win4_1.blk t).view.emb y = (win4_3.blk t).view.emb y from rfl)
theorem before4_2 (k w o x) (t : Fin cfg4.N) (d) : (dat4 (F := F) c n k w o x).before 2 t d = fun y => x (row4 t y) := by
  unfold Dat.before
  rw [if_pos (fetch4_2 t)]
  funext y
  exact congrArg x (show (win4_2.blk t).view.emb y = (win4_3.blk t).view.emb y from rfl)

/-! ## The bodies' obligations -/

theorem body1_ob (h o) : BodyObligation (dat1 (F := F) c n h o) defs₀ 𝒱₀ (none : HIx 2) Set.univ := fun t => by
  rw [bigSep_W1, bigSep_W1]
  have e : (dat1 (F := F) c n h o).owesAt none t.succ = (dat1 (F := F) c n h o).owesAt none t.castSucc := rfl
  have e' : (dat1 (F := F) c n h o).Φ t.succ = (dat1 (F := F) c n h o).Φ t.castSucc := rfl
  rw [e, e']
  show iprop((dat1 (F := F) c n h o).Φ t.castSucc ∗ (dat1 (F := F) c n h o).owesAt none t.castSucc
      ∗ (∃ d, owns (c : Thread nD τ) ((cfg1.win 0).stage (cfg1.slots t 0)) fullShare ((dat1 (F := F) c n h o).before 0 t d))
      ∗ (∃ d, owns (c : Thread nD τ) ((cfg1.win 1).stage (cfg1.slots t 1)) fullShare ((dat1 (F := F) c n h o).before 1 t d))) ⊢ _
  iintro ⟨HΦ, HO, ⟨%d0, H0⟩, ⟨%d1, H1⟩⟩
  rw [before1_0]
  iapply (select1_run c _ _ _ _ h _ _)
  isplitl [H0]; · iexact H0
  isplitl [H1]; · iexact H1
  iintro ⟨H0, H1⟩
  isplitl [HΦ]; · iexact HΦ
  isplitl [HO]; · iexact HO
  isplitl [H0]; · iexact H0
  iexact H1

theorem body3_ob (h st o) : BodyObligation (dat3 (F := F) c n h st o) defs₀ 𝒱₀ (none : HIx 2) Set.univ := fun t => by
  rw [bigSep_W3, bigSep_W3]
  have e : (dat3 (F := F) c n h st o).owesAt none t.succ = (dat3 (F := F) c n h st o).owesAt none t.castSucc := rfl
  have e' : (dat3 (F := F) c n h st o).Φ t.succ = (dat3 (F := F) c n h st o).Φ t.castSucc := rfl
  rw [e, e']
  show iprop((dat3 (F := F) c n h st o).Φ t.castSucc ∗ (dat3 (F := F) c n h st o).owesAt none t.castSucc
      ∗ (∃ d, owns (c : Thread nD τ) ((cfg3.win 0).stage (cfg3.slots t 0)) fullShare ((dat3 (F := F) c n h st o).before 0 t d))
      ∗ (∃ d, owns (c : Thread nD τ) ((cfg3.win 1).stage (cfg3.slots t 1)) fullShare ((dat3 (F := F) c n h st o).before 1 t d))
      ∗ (∃ d, owns (c : Thread nD τ) ((cfg3.win 2).stage (cfg3.slots t 2)) fullShare ((dat3 (F := F) c n h st o).before 2 t d))) ⊢ _
  iintro ⟨HΦ, HO, ⟨%d0, H0⟩, ⟨%d1, H1⟩, ⟨%d2, H2⟩⟩
  rw [before3_0, before3_1]
  iapply (select2_run c _ _ _ _ _ _ h st _ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

theorem mask_block (t : Fin grid4.N) (k : S1x1.Idx → Elt F .i32) (w : S4096x4096.Idx → Elt F .f32) (x : S4096x4096.Idx → Elt F .i32) :
    k4_pay1 (F := F) (k unitIdx) (fun y => x (row4 t y)) (fun y => w (row4 t y)) = fun y => masked k w x (row4 t y) :=
  funext fun y => mask_pointwise (k unitIdx) (fun y => x (row4 t y)) (fun y => w (row4 t y)) y

theorem after4_0 (k w o x) (t : Fin cfg4.N) : (dat4 (F := F) c n k w o x).after 0 t = k := by
  unfold dat4
  dsimp only
theorem after4_1 (k w o x) (t : Fin cfg4.N) : (dat4 (F := F) c n k w o x).after 1 t = fun y => w (row4 t y) := by
  unfold dat4
  dsimp only
  funext y
  rfl
theorem after4_2 (k w o x) (t : Fin cfg4.N) : (dat4 (F := F) c n k w o x).after 2 t = fun y => x (row4 t y) := by
  unfold dat4
  dsimp only
  funext y
  rfl
theorem after4_3 (k w o x) (t : Fin cfg4.N) : (dat4 (F := F) c n k w o x).after 3 t = fun y => masked k w x (row4 t y) := by
  unfold dat4
  dsimp only
  funext y
  rfl

theorem body4_ob (k w o x) : BodyObligation (dat4 (F := F) c n k w o x) defs₀ 𝒱₀ (none : HIx 2) Set.univ := fun t => by
  rw [bigSep_W4, bigSep_W4]
  have e : (dat4 (F := F) c n k w o x).owesAt none t.succ = (dat4 (F := F) c n k w o x).owesAt none t.castSucc := rfl
  have e' : (dat4 (F := F) c n k w o x).Φ t.succ = (dat4 (F := F) c n k w o x).Φ t.castSucc := rfl
  rw [e, e']
  show iprop((dat4 (F := F) c n k w o x).Φ t.castSucc ∗ (dat4 (F := F) c n k w o x).owesAt none t.castSucc
      ∗ (∃ d, owns (c : Thread nD τ) ((cfg4.win 0).stage (cfg4.slots t 0)) fullShare ((dat4 (F := F) c n k w o x).before 0 t d))
      ∗ (∃ d, owns (c : Thread nD τ) ((cfg4.win 1).stage (cfg4.slots t 1)) fullShare ((dat4 (F := F) c n k w o x).before 1 t d))
      ∗ (∃ d, owns (c : Thread nD τ) ((cfg4.win 2).stage (cfg4.slots t 2)) fullShare ((dat4 (F := F) c n k w o x).before 2 t d))
      ∗ (∃ d, owns (c : Thread nD τ) ((cfg4.win 3).stage (cfg4.slots t 3)) fullShare ((dat4 (F := F) c n k w o x).before 3 t d))) ⊢ _
  iintro ⟨HΦ, HO, ⟨%d0, H0⟩, ⟨%d1, H1⟩, ⟨%d2, H2⟩, ⟨%d3, H3⟩⟩
  rw [before4_0, before4_1, before4_2]
  iapply (mask_run c (grid4.coords t) (win4_0.stage (cfg4.slots t 0)) (hstage4_0 ((cfg4.slots t 0).cast nbuf4_0)) (win4_1.stage (cfg4.slots t 1)) (hstage4_1 ((cfg4.slots t 1).cast nbuf4_1))
    (win4_2.stage (cfg4.slots t 2)) (hstage4_2 ((cfg4.slots t 2).cast nbuf4_2)) (win4_3.stage (cfg4.slots t 3)) (hstage4_3 ((cfg4.slots t 3).cast nbuf4_3))
    k (fun y => w (row4 t y)) (fun y => x (row4 t y)) ((dat4 (F := F) c n k w o x).before 3 t d3) _)
  isplitl [H0]; · iexact H0
  isplitl [H1]; · iexact H1
  isplitl [H2]; · iexact H2
  isplitl [H3]; · iexact H3
  rw [mask_block]
  rw [after4_0, after4_1, after4_2, after4_3]
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## The results after the regions -/

theorem final1 (h o) : (dat1 (F := F) c n h o).arrAt 1 cfg1.N = sel1 h :=
  (dat1 (F := F) c n h o).arrAt_eq_of_covers 1 (sel1 h) (by decide +kernel) fun t _ y => by
    rw [fin_N1 t]; exact congrArg (sel1 h) (by blk_ext [index1_1])

theorem final3 (h st o) : (dat3 (F := F) c n h st o).arrAt 2 cfg3.N = sel2 h st :=
  (dat3 (F := F) c n h st o).arrAt_eq_of_covers 2 (sel2 h st) (by decide +kernel) fun t _ y => by
    rw [fin_N3 t]; exact congrArg (sel2 h st) (by blk_ext [index3_2])

theorem covers4 : (win4_3).Covers := by decide +kernel

theorem final4 (k w o x) : (dat4 (F := F) c n k w o x).arrAt 3 cfg4.N = masked k w x := by
  refine (dat4 (F := F) c n k w o x).arrAt_eq_of_covers 3 (masked k w x) covers4 fun t _ y => ?_
  blk_simp
  rw [after4_3]
  rfl

end Data

end Cert.Proof.Run

end
-- ==== Proof.Steps.lean ====
/-
  The TensorCore's steps between the SparseCore calls, each over the buffers it touches: the three regions, with the
  result at its value, and an operation of the host that reads one buffer and writes another.
-/
module

public import proofs.«01_k».proof.Proof.Regions
public import Idealize.ShloMosaic.Lib.SparseCore.Quiescent

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.ShloMosaic.Pipeline (Dat RegionSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A buffer of the TensorCore, whole. -/
abbrev at_ (c : Dev nD) (b : Ref sig .tc) (f : Buf (Elt F) ((c : Thread nD τ).loc b)) : sProp 𝕄 := ((c : Thread nD τ).loc b) ↦{fullShare} f

/-- A TensorCore's program step. -/
abbrev WpMain (c : Dev nD) {α : Type} (p : Prog (TpuEff nD τ sig (Elt F) (SparseCore.Sig (ΛP (F := F)) 2) .tc) α) (Q : α → sProp 𝕄) : sProp 𝕄 :=
  wp frame (wpE ((K (F := F)).defs D) 𝒱 (c : Thread nD τ) none) Set.univ p Q

/-! ## Operations of the host -/

theorem host_step (m : (ℓ : Loc nD τ sig) → Buf (Elt F) ℓ) (c : Dev nD) {x y : Ref sig .tc} (hxy : x ≠ y) (op : HloOp τ sig (Elt F))
    (hb : op.bufs = {Proc.devRef .tc x, Proc.devRef .tc y}) (hw : op.writes = {Proc.devRef .tc y}) (hf : op.fresh = ∅)
    (fx : Buf (Elt F) ((c : Thread nD τ).loc x)) (fy gy : Buf (Elt F) ((c : Thread nD τ).loc y))
    (hres : ∀ V : Valuation τ sig (Elt F), V (Proc.devRef .tc x) = fx → op.result V (Proc.devRef .tc y) = gy) (Q : PUnit → sProp 𝕄) :
    iprop(boundary (c : Thread nD τ) ∗ at_ c x fx ∗ at_ c y fy ∗ ((boundary (c : Thread nD τ) ∗ at_ c x fx ∗ at_ c y gy) -∗ Q ⟨⟩))
      ⊢ WpMain c (hlo rfl op fun _ => .ret ⟨⟩) Q := by
  classical
  have hne : (Proc.devRef .tc x : DevRef τ sig) ≠ Proc.devRef .tc y := fun h => hxy (Proc.devRef_injective _ h)
  let V : Valuation τ sig (Elt F) := Function.update (Function.update (fun b => m (c, b)) (Proc.devRef .tc y) fy) (Proc.devRef .tc x) fx
  have hx : V (Proc.devRef .tc x) = fx := Function.update_self _ _ _
  have hy : V (Proc.devRef .tc y) = fy := (Function.update_of_ne hne.symm _ _).trans (Function.update_self _ _ _)
  have hx' : op.result V (Proc.devRef .tc x) = fx := (op.result_of_not_mem V (by rw [hw, Finset.mem_singleton]; exact hne)).trans hx
  have hy' : op.result V (Proc.devRef .tc y) = gy := hres V hx
  have hheld : ∀ W : Valuation τ sig (Elt F), (bigSep op.bufs (fun b => ((c : Thread nD τ).1, b) ↦{fullShare} W b) : sProp 𝕄)
      = iprop(((c, Proc.devRef .tc x) ↦{fullShare} W (Proc.devRef .tc x)) ∗ ((c, Proc.devRef .tc y) ↦{fullShare} W (Proc.devRef .tc y))) := fun W => by
    rw [hb, SparseCore.bigSep_insert' (by rw [Finset.mem_singleton]; exact hne), BI.bigSep_singleton]
  iintro ⟨Hb, Hx, Hy, Hk⟩
  iapply (wp_hlo 𝒱 (c : Thread nD τ) none Set.univ (op := op) (q := fun _ => fullShare) (F := V) (fun _ _ => rfl) hf) $$ [Hb Hx Hy]
  · isplitl [Hb]; · iexact Hb
    rw [hheld, hx, hy]
    isplitl [Hx]; · iexact Hx
    iexact Hy
  rw [hheld, hx', hy']
  iintro ⟨Hb, Hx, Hy⟩
  rw [wp_ret]
  imodintro
  iapply Hk
  isplitl [Hb]; · iexact Hb
  isplitl [Hx]; · iexact Hx
  iexact Hy

/-! ## Regions -/

/-- What a region of pipeline `p` takes of the launch's ghost state. -/
def ghost (p : Fin 3) (c : Dev nD) : sProp 𝕄 :=
  iprop(Pipeline.cellsGhost (Pipeline.pin (pcfgs (F := F)) adm) EP p c ∗ Pipeline.toksInit (Pipeline.pin (pcfgs (F := F)) adm) EP p c)

section

variable [∀ e, Nonempty (Elt F e)]

theorem lift_step (c : Dev nD) {α : Type} (p : Prog (TpuEff nD τ sig (Elt F) (ΛP (F := F)) .tc) α) (Q : α → sProp 𝕄) :
    wp frame (wpE D 𝒱 (c : Thread nD τ) none) Set.univ p Q ⊢ WpMain c (SparseCore.liftProg p) Q :=
  (K (F := F)).wp_liftProg D 𝒱 (c : Thread nD τ) Set.univ none p Q

theorem reorder (b b' p l g t q w : sProp 𝕄) (h : q ⊢ w) : iprop(b ∗ p ∗ l ∗ (g ∗ t) ∗ (b' -∗ q)) ⊢ iprop((b' -∗ w) ∗ b ∗ p ∗ l ∗ g ∗ t) := by
  iintro ⟨Hb, Hpre, Hlev, ⟨Hg, Ht⟩, Hk⟩
  isplitl [Hk]
  · iintro H
    iapply h
    iapply Hk
    iexact H
  isplitl [Hb]; · iexact Hb
  isplitl [Hpre]; · iexact Hpre
  isplitl [Hlev]; · iexact Hlev
  isplitl [Hg]; · iexact Hg
  iexact Ht

set_option backward.isDefEq.respectTransparency.types false in
theorem enter (pdats : (p : Fin 3) → (c : Dev nD) → Dat τ (Elt F) (HIx 2) ℕ UU ℕ (Pipeline.pin (pcfgs (F := F)) adm p) c) {p : Fin 3}
    (R : RegionSeg (pcfgs (F := F)) adm pdats (none : HIx 2) (defs₀ (F := F)) 𝒱₀ (K (F := F)).L (K (F := F)).lev p) (c : Dev nD) (Q : PUnit → sProp 𝕄) :
    iprop(boundary (c : Thread nD τ) ∗ R.pre c ∗ levAts (K (F := F)).L (K (F := F)).lev ∗ ghost p c
        ∗ (iprop(boundary (c : Thread nD τ) ∗ R.post c) -∗ Q ⟨⟩))
      ⊢ WpMain c (Prog.lift (.customCall (SparseCore.inner (Pipeline.entry p)) ())) Q := by
  have e : (Prog.lift (.customCall (SparseCore.inner (Pipeline.entry p)) ()) : Prog (TpuEff nD τ sig (Elt F) (SparseCore.Sig (ΛP (F := F)) 2) .tc) PUnit)
      = SparseCore.liftProg (.op (.customCall (Pipeline.entry p) ()) fun _ => .ret ⟨⟩) := rfl
  have h := RegionSeg.wp (pcfgs (F := F)) adm pdats (none : HIx 2) (launch1.toP.cellOf_inj adm) EP defs₀ 𝒱₀ (K (F := F)).L (K (F := F)).lev R c none
    (fun u hu => absurd hu (Option.not_mem_none u)) (fun _ => .ret ⟨⟩) Q
  rw [e]
  refine BI.Entails.trans ?_ (lift_step c _ Q)
  refine BI.Entails.trans ?_ h
  exact reorder _ _ _ _ _ _ _ _ (by rw [wp_ret]; exact fupd_intro)

/-- The proof data of the three regions, at the contents they are entered from. -/
def data (h1 : S32x512x128.Idx → Elt F .i32) (o1 : S8x128.Idx → Elt F .i32) (h2 : S32x512x128.Idx → Elt F .i32) (st o2 : S8x128.Idx → Elt F .i32)
    (k : S1x1.Idx → Elt F .i32) (w o : S4096x4096.Idx → Elt F .f32) (x : S4096x4096.Idx → Elt F .i32) :
    (p : Fin 3) → (c : Dev nD) → Dat τ (Elt F) (HIx 2) ℕ UU ℕ (Pipeline.pin (pcfgs (F := F)) adm p) c
  | ⟨0, _⟩, c => dat1 c 1 h1 o1
  | ⟨1, _⟩, c => dat3 c 2 h2 st o2
  | ⟨2, _⟩, c => dat4 c 2 k w o x

variable (h1 : S32x512x128.Idx → Elt F .i32) (o1 : S8x128.Idx → Elt F .i32) (h2 : S32x512x128.Idx → Elt F .i32) (st o2 : S8x128.Idx → Elt F .i32)
    (k : S1x1.Idx → Elt F .i32) (w o : S4096x4096.Idx → Elt F .f32) (x : S4096x4096.Idx → Elt F .i32)

/-- The three regions. -/
def region1 := region (data h1 o1 h2 st o2 k w o x) 1 0 launch1.toP rfl (fun c => (body1_ob c 1 h1 o1).loose) (fun _ _ => rfl) (fun _ _ => rfl) (fun _ _ => rfl)
def region3 := region (data h1 o1 h2 st o2 k w o x) 2 1 launch3.toP rfl (fun c => (body3_ob c 2 h2 st o2).loose) (fun _ _ => rfl) (fun _ _ => rfl) (fun _ _ => rfl)
theorem data2 (c : Dev nD) : data h1 o1 h2 st o2 k w o x 2 c = dat4 c 2 k w o x := by
  unfold data
  dsimp only
def region4 := region (data h1 o1 h2 st o2 k w o x) 2 2 launch4.toP rfl
  (fun c => by rw [data2]; exact (body4_ob c 2 k w o x).loose)
  (fun c _ => by rw [data2]; dsimp only [dat4]) (fun c _ => by rw [data2]; dsimp only [dat4]) (fun _ _ => by rw [data2]; dsimp only [dat4]; rfl)

/-! ## The regions over the buffers of their windows -/

theorem arrays1 (c : Dev nD) (n : ℕ) (A : (v : Fin cfg1.W) → Buf (Elt F) ((cfg1.win v).arr.view.loc (c : Thread nD τ))) :
    (dat1 (F := F) c n h1 o1).arrays A = iprop(at_ c main_v1 (A 0) ∗ at_ c main_v2 (A 1)) := by
  have e : (dat1 (F := F) c n h1 o1).arrays A = bigSep Finset.univ fun v : Fin cfg1.W => (cfg1.win v).arr.view.loc (c : Thread nD τ) ↦{fullShare} A v := by
    unfold Dat.arrays
    exact bigSep_congr fun v _ => by
      rw [show (cfg1.win v).arr.view.set = Finset.univ from (arr_whole1 v).set_eq_univ, (dat1 (F := F) c n h1 o1).share_full (fun _ => by dsimp only [dat1]) v]
  exact e.trans (bigSep_W1 _)

theorem before1 (c : Dev nD) (n : ℕ) : (dat1 (F := F) c n h1 o1).arrays ((dat1 c n h1 o1).arrAt · 0) = iprop(at_ c main_v1 h1 ∗ at_ c main_v2 o1) := by
  rw [arrays1]
  rfl

theorem afterwards1 (c : Dev nD) (n : ℕ) : (dat1 (F := F) c n h1 o1).arrays ((dat1 c n h1 o1).arrAt · cfg1.N) = iprop(at_ c main_v1 h1 ∗ at_ c main_v2 (sel1 h1)) := by
  rw [arrays1, final1, (dat1 c n h1 o1).arrAt_in 0 rfl]
  rfl

theorem arrays3 (c : Dev nD) (n : ℕ) (A : (v : Fin cfg3.W) → Buf (Elt F) ((cfg3.win v).arr.view.loc (c : Thread nD τ))) :
    (dat3 (F := F) c n h2 st o2).arrays A = iprop(at_ c main_v4 (A 0) ∗ at_ c main_v2 (A 1) ∗ at_ c main_v5 (A 2)) := by
  have e : (dat3 (F := F) c n h2 st o2).arrays A = bigSep Finset.univ fun v : Fin cfg3.W => (cfg3.win v).arr.view.loc (c : Thread nD τ) ↦{fullShare} A v := by
    unfold Dat.arrays
    exact bigSep_congr fun v _ => by
      rw [show (cfg3.win v).arr.view.set = Finset.univ from (arr_whole3 v).set_eq_univ, (dat3 (F := F) c n h2 st o2).share_full (fun _ => by dsimp only [dat3]) v]
  exact e.trans (bigSep_W3 _)

theorem before3 (c : Dev nD) (n : ℕ) : (dat3 (F := F) c n h2 st o2).arrays ((dat3 c n h2 st o2).arrAt · 0) = iprop(at_ c main_v4 h2 ∗ at_ c main_v2 st ∗ at_ c main_v5 o2) := by
  rw [arrays3]
  rfl

theorem afterwards3 (c : Dev nD) (n : ℕ) : (dat3 (F := F) c n h2 st o2).arrays ((dat3 c n h2 st o2).arrAt · cfg3.N) = iprop(at_ c main_v4 h2 ∗ at_ c main_v2 st ∗ at_ c main_v5 (sel2 h2 st)) := by
  rw [arrays3, final3, (dat3 c n h2 st o2).arrAt_in 0 rfl, (dat3 c n h2 st o2).arrAt_in 1 rfl]
  rfl

theorem arrays4 (c : Dev nD) (n : ℕ) (A : (v : Fin cfg4.W) → Buf (Elt F) ((cfg4.win v).arr.view.loc (c : Thread nD τ))) :
    (dat4 (F := F) c n k w o x).arrays A = iprop(at_ c main_v6 (A 0) ∗ at_ c main_arg0 (A 1) ∗ at_ c main_arg1 (A 2) ∗ at_ c main_v7 (A 3)) := by
  have e : (dat4 (F := F) c n k w o x).arrays A = bigSep Finset.univ fun v : Fin cfg4.W => (cfg4.win v).arr.view.loc (c : Thread nD τ) ↦{fullShare} A v := by
    unfold Dat.arrays
    exact bigSep_congr fun v _ => by
      rw [show (cfg4.win v).arr.view.set = Finset.univ from (arr_whole4 v).set_eq_univ, (dat4 (F := F) c n k w o x).share_full (fun _ => by dsimp only [dat4]) v]
  exact e.trans (bigSep_W4 _)

theorem before4 (c : Dev nD) (n : ℕ) : (dat4 (F := F) c n k w o x).arrays ((dat4 c n k w o x).arrAt · 0) = iprop(at_ c main_v6 k ∗ at_ c main_arg0 w ∗ at_ c main_arg1 x ∗ at_ c main_v7 o) := by
  rw [arrays4]
  rfl

theorem afterwards4 (c : Dev nD) (n : ℕ) : (dat4 (F := F) c n k w o x).arrays ((dat4 c n k w o x).arrAt · cfg4.N) = iprop(at_ c main_v6 k ∗ at_ c main_arg0 w ∗ at_ c main_arg1 x ∗ at_ c main_v7 (masked k w x)) := by
  rw [arrays4, final4, (dat4 c n k w o x).arrAt_in 0 rfl, (dat4 c n k w o x).arrAt_in 1 rfl, (dat4 c n k w o x).arrAt_in 2 rfl]
  rfl

include h1 o1 h2 st o2 k w o x

theorem region1_run (c : Dev nD) (Q : PUnit → sProp 𝕄) :
    iprop(boundary (c : Thread nD τ) ∗ ((at_ c main_v1 h1 ∗ at_ c main_v2 o1) ∗ Owes (F := F) c 1) ∗ levAts (K (F := F)).L (K (F := F)).lev ∗ ghost 0 c
        ∗ (iprop(boundary (c : Thread nD τ) ∗ (at_ c main_v1 h1 ∗ at_ c main_v2 (sel1 h1)) ∗ Owes (F := F) c 1) -∗ Q ⟨⟩))
      ⊢ WpMain c (Prog.lift (.customCall (SparseCore.inner (Pipeline.entry 0)) ())) Q := by
  have h := enter (data h1 o1 h2 st o2 k w o x) (region1 h1 o1 h2 st o2 k w o x) c Q
  have epre : (region1 h1 o1 h2 st o2 k w o x).pre c = iprop((at_ c main_v1 h1 ∗ at_ c main_v2 o1) ∗ Owes (F := F) c 1) := by
    rw [← before1 h1 o1 c 1]
    rfl
  have epost : (region1 h1 o1 h2 st o2 k w o x).post c = iprop((at_ c main_v1 h1 ∗ at_ c main_v2 (sel1 h1)) ∗ Owes (F := F) c 1) := by
    rw [← afterwards1 h1 o1 c 1]
    rfl
  rw [epre, epost] at h
  exact h

theorem region3_run (c : Dev nD) (Q : PUnit → sProp 𝕄) :
    iprop(boundary (c : Thread nD τ) ∗ ((at_ c main_v4 h2 ∗ at_ c main_v2 st ∗ at_ c main_v5 o2) ∗ Owes (F := F) c 2) ∗ levAts (K (F := F)).L (K (F := F)).lev ∗ ghost 1 c
        ∗ (iprop(boundary (c : Thread nD τ) ∗ (at_ c main_v4 h2 ∗ at_ c main_v2 st ∗ at_ c main_v5 (sel2 h2 st)) ∗ Owes (F := F) c 2) -∗ Q ⟨⟩))
      ⊢ WpMain c (Prog.lift (.customCall (SparseCore.inner (Pipeline.entry 1)) ())) Q := by
  have h := enter (data h1 o1 h2 st o2 k w o x) (region3 h1 o1 h2 st o2 k w o x) c Q
  have epre : (region3 h1 o1 h2 st o2 k w o x).pre c = iprop((at_ c main_v4 h2 ∗ at_ c main_v2 st ∗ at_ c main_v5 o2) ∗ Owes (F := F) c 2) := by
    rw [← before3 h2 st o2 c 2]
    rfl
  have epost : (region3 h1 o1 h2 st o2 k w o x).post c = iprop((at_ c main_v4 h2 ∗ at_ c main_v2 st ∗ at_ c main_v5 (sel2 h2 st)) ∗ Owes (F := F) c 2) := by
    rw [← afterwards3 h2 st o2 c 2]
    rfl
  rw [epre, epost] at h
  exact h

theorem region4_run (c : Dev nD) (Q : PUnit → sProp 𝕄) :
    iprop(boundary (c : Thread nD τ) ∗ ((at_ c main_v6 k ∗ at_ c main_arg0 w ∗ at_ c main_arg1 x ∗ at_ c main_v7 o) ∗ Owes (F := F) c 2) ∗ levAts (K (F := F)).L (K (F := F)).lev ∗ ghost 2 c
        ∗ (iprop(boundary (c : Thread nD τ) ∗ (at_ c main_v6 k ∗ at_ c main_arg0 w ∗ at_ c main_arg1 x ∗ at_ c main_v7 (masked k w x)) ∗ Owes (F := F) c 2) -∗ Q ⟨⟩))
      ⊢ WpMain c (Prog.lift (.customCall (SparseCore.inner (Pipeline.entry 2)) ())) Q := by
  have h := enter (data h1 o1 h2 st o2 k w o x) (region4 h1 o1 h2 st o2 k w o x) c Q
  have epre : (region4 h1 o1 h2 st o2 k w o x).pre c = iprop((at_ c main_v6 k ∗ at_ c main_arg0 w ∗ at_ c main_arg1 x ∗ at_ c main_v7 o) ∗ Owes (F := F) c 2) := by
    rw [← before4 k w o x c 2]
    rfl
  have epost : (region4 h1 o1 h2 st o2 k w o x).post c = iprop((at_ c main_v6 k ∗ at_ c main_arg0 w ∗ at_ c main_arg1 x ∗ at_ c main_v7 (masked k w x)) ∗ Owes (F := F) c 2) := by
    rw [← afterwards4 k w o x c 2]
    rfl
  rw [epre, epost] at h
  exact h

end

end Cert.Proof.Run

end
-- ==== Proof.Launch.lean ====
/-
  The launch: what each SparseCore is handed at a call and hands back, how it divides that among its vector subcores,
  and the arrays of the TensorCore divided among the SparseCores.
-/
module

public import proofs.«01_k».proof.Proof.Task
public import proofs.«01_k».proof.Proof.Steps

@[expose] public section

noncomputable section

namespace Cert.Proof.Run

open Cert.KernelIdeal Cert.KernelIdeal.Gen Cert.Proof.Restate Cert.Proof.Keys Cert.Proof.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The values along @main, as functions of the words of the scores -/

section

variable (w : S4096x4096.Idx → BitVec 32)

/-- The tables of the first pass, as the first select reads them. -/
def tab1 : S32x512x128.Idx → BitVec 32 := shapeCast S32x512x128 (tables hit0 w) shapeCasts_S2097152_S32x512x128
/-- The state the first select leaves. -/
def st1 : S8x128.Idx → BitVec 32 := sel1 (F := F) (tab1 w)
/-- The high half the first select chooses. -/
def pre1 : BitVec 32 := prefix1 (F := F) (tab1 w)
/-- The tables of the second pass, flat and as the second select reads them. -/
def out2 : S2097152.Idx → BitVec 32 := tables (hit2 (pre1 (F := F) w)) w
def tab2 : S32x512x128.Idx → BitVec 32 := shapeCast S32x512x128 (out2 (F := F) w) shapeCasts_S2097152_S32x512x128
/-- The state the second select leaves, and the key in its corner. -/
def st2 : S8x128.Idx → BitVec 32 := sel2 (F := F) (tab2 (F := F) w) (st1 (F := F) w)
def keyAt : S1x1.Idx → BitVec 32 := extractStridedSlice S1x1 ![0, 0] (st2 (F := F) w) slices_S8x128_S1x1_0_0

end

/-- Row 0 of the first select's state holds the chosen high half. -/
theorem st1_row (w : S4096x4096.Idx → BitVec 32) (z : S8x128.Idx) (hz : (z 0).val = 0) : st1 (F := F) w z = pre1 (F := F) w := by
  show Scalar.select (IntOp.cmpi .eq (BitVec.ofNat 32 (0 * 8 + (z 0).val)) 0#32) (pre1 (F := F) w) _ = _
  rw [hz]
  rfl

/-! ## What a SparseCore is handed -/

/-- Of a SparseCore in the first pass: its share of the words and the blocks of its tiles. -/
def core0 (d : Dev nD) (c : ℕ) (w : S4096x4096.Idx → BitVec 32) (g : S2097152.Idx → BitVec 32) : sProp 𝕄 :=
  iprop((xLoc d ↦{scShare c} w) ∗ bigSep Finset.univ fun j : Fin 16 => oLoc0 d ↦[blk c j.val]{fullShare} g)

/-- The same of the second pass, with its share of the state. -/
def core2 (d : Dev nD) (c : ℕ) (w : S4096x4096.Idx → BitVec 32) (st : S8x128.Idx → BitVec 32) (g : S2097152.Idx → BitVec 32) : sProp 𝕄 :=
  iprop((xLoc d ↦{scShare c} w) ∗ (sLoc d ↦{scShare c} st) ∗ bigSep Finset.univ fun j : Fin 16 => oLoc2 d ↦[blk c j.val]{fullShare} g)

omit [FloatOps F] in
theorem core0_split (d : Dev nD) (c : ℕ) (w : S4096x4096.Idx → BitVec 32) (g g' : S2097152.Idx → BitVec 32) :
    core0 (F := F) d c w g ⊢ |={Set.univ}=> iprop((bigSep Finset.univ fun j : Fin 16 => task0 (F := F) d c j.val w g)
      ∗ ((bigSep Finset.univ fun j : Fin 16 => task0 (F := F) d c j.val w g') -∗ core0 (F := F) d c w g')) := by
  unfold core0 task0
  rw [bigSep_sep', bigSep_sep']
  iintro ⟨Hx, Ho⟩
  ihave H := (Transfers.pointsTo_toks_split (scShare c) 16) $$ Hx
  icases H with ⟨Hr, Ht⟩
  imodintro
  isplitl [Ht Ho]
  · isplitl [Ht]; · iexact Ht
    iexact Ho
  iintro ⟨Ht, Ho⟩
  isplitl [Hr Ht]
  · iapply (Transfers.pointsTo_toks_join (scShare c) 16)
    isplitl [Hr]; · iexact Hr
    iexact Ht
  iexact Ho

omit [FloatOps F] in
theorem core2_split (d : Dev nD) (c : ℕ) (w : S4096x4096.Idx → BitVec 32) (st : S8x128.Idx → BitVec 32) (g g' : S2097152.Idx → BitVec 32) :
    core2 (F := F) d c w st g ⊢ |={Set.univ}=> iprop((bigSep Finset.univ fun j : Fin 16 => task2 (F := F) d c j.val w st g)
      ∗ ((bigSep Finset.univ fun j : Fin 16 => task2 (F := F) d c j.val w st g') -∗ core2 (F := F) d c w st g')) := by
  unfold core2 task2
  rw [bigSep_sep', bigSep_sep', bigSep_sep', bigSep_sep']
  iintro ⟨Hx, Hs, Ho⟩
  ihave H := (Transfers.pointsTo_toks_split (scShare c) 16) $$ Hx
  icases H with ⟨Hr, Ht⟩
  ihave H := (Transfers.pointsTo_toks_split (scShare c) 16) $$ Hs
  icases H with ⟨Hq, Hu⟩
  imodintro
  isplitl [Ht Hu Ho]
  · isplitl [Ht]; · iexact Ht
    isplitl [Hu]; · iexact Hu
    iexact Ho
  iintro ⟨Ht, Hu, Ho⟩
  isplitl [Hr Ht]
  · iapply (Transfers.pointsTo_toks_join (scShare c) 16)
    isplitl [Hr]; · iexact Hr
    iexact Ht
  isplitl [Hq Hu]
  · iapply (Transfers.pointsTo_toks_join (scShare c) 16)
    isplitl [Hq]; · iexact Hq
    iexact Hu
  iexact Ho

/-! ## The TensorCore's arrays over the SparseCores -/

theorem blk_disjoint : ∀ t ∈ (Finset.univ : Finset (Fin 2 × Fin 16)), ∀ t' ∈ (Finset.univ : Finset (Fin 2 × Fin 16)), t ≠ t' →
    Disjoint (blk t.1.val t.2.val) (blk t'.1.val t'.2.val) := by
  intro t _ t' _ hne
  rw [Finset.disjoint_left]
  intro p hp hp'
  have h := (Finset.mem_filter.1 hp).2
  have h' := (Finset.mem_filter.1 hp').2
  exact hne (Prod.ext (Fin.ext (by omega)) (Fin.ext (by omega)))

theorem blk_cover : (Finset.univ : Finset (Fin 2 × Fin 16)).biUnion (fun t => blk t.1.val t.2.val) = Finset.univ := by
  refine Finset.eq_univ_of_forall fun p => Finset.mem_biUnion.2 ?_
  have hp : (p 0).val < 2097152 := (p 0).isLt
  refine ⟨(⟨(p 0).val / 65536 % 2, by omega⟩, ⟨(p 0).val / 65536 / 2, by omega⟩), Finset.mem_univ _, ?_⟩
  refine Finset.mem_filter.2 ⟨Finset.mem_univ _, ?_⟩
  show (p 0).val / 65536 = 2 * ((p 0).val / 65536 / 2) + (p 0).val / 65536 % 2
  omega

omit [FloatOps F] in
theorem out0_blocks (d : Dev nD) (g : S2097152.Idx → BitVec 32) :
    (oLoc0 d ↦{fullShare} g : sProp 𝕄) = bigSep Finset.univ fun c : Fin 2 => bigSep Finset.univ fun j : Fin 16 => oLoc0 d ↦[blk c.val j.val]{fullShare} g := by
  have h := pointsTo_biUnion (q := fullShare) (f := g) (Finset.univ : Finset (Fin 2 × Fin 16)) (ℓ := oLoc0 d) (Val := Elt F) (Ix := HIx 2) (Name := ℕ) (U := UU) (Lvl := ℕ)
    (fun t => blk t.1.val t.2.val) blk_disjoint
  rw [blk_cover, bigSep_univ_prod] at h
  exact h

omit [FloatOps F] in
theorem out2_blocks (d : Dev nD) (g : S2097152.Idx → BitVec 32) :
    (oLoc2 d ↦{fullShare} g : sProp 𝕄) = bigSep Finset.univ fun c : Fin 2 => bigSep Finset.univ fun j : Fin 16 => oLoc2 d ↦[blk c.val j.val]{fullShare} g := by
  have h := pointsTo_biUnion (q := fullShare) (f := g) (Finset.univ : Finset (Fin 2 × Fin 16)) (ℓ := oLoc2 d) (Val := Elt F) (Ix := HIx 2) (Name := ℕ) (U := UU) (Lvl := ℕ)
    (fun t => blk t.1.val t.2.val) blk_disjoint
  rw [blk_cover, bigSep_univ_prod] at h
  exact h

omit [FloatOps F] in
/-- The arrays of the first call divide over the two SparseCores; what the TensorCore keeps meanwhile is a share of the words. -/
theorem cores0_split (d : Dev nD) (w : S4096x4096.Idx → BitVec 32) (g : S2097152.Idx → BitVec 32) :
    iprop((xLoc d ↦{fullShare} w) ∗ (oLoc0 d ↦{fullShare} g))
      ⊢ (iprop((xLoc d ↦{Transfers.shareDrop fullShare 2} w) ∗ bigSep Finset.univ fun c : Fin 2 => core0 (F := F) d c.val w g) : sProp 𝕄) := by
  unfold core0
  rw [out0_blocks, bigSep_sep']
  iintro ⟨Hx, Ho⟩
  ihave H := (Transfers.pointsTo_toks_split fullShare 2) $$ Hx
  icases H with ⟨Hr, Ht⟩
  isplitl [Hr]; · iexact Hr
  isplitl [Ht]; · iexact Ht
  iexact Ho

omit [FloatOps F] in
theorem cores0_join (d : Dev nD) (w : S4096x4096.Idx → BitVec 32) (g : S2097152.Idx → BitVec 32) :
    iprop((xLoc d ↦{Transfers.shareDrop fullShare 2} w) ∗ bigSep Finset.univ fun c : Fin 2 => core0 (F := F) d c.val w g)
      ⊢ (iprop((xLoc d ↦{fullShare} w) ∗ (oLoc0 d ↦{fullShare} g)) : sProp 𝕄) := by
  unfold core0
  rw [out0_blocks, bigSep_sep']
  iintro ⟨Hr, Ht, Ho⟩
  isplitl [Hr Ht]
  · iapply (Transfers.pointsTo_toks_join fullShare 2)
    isplitl [Hr]; · iexact Hr
    iexact Ht
  iexact Ho

omit [FloatOps F] in
theorem cores2_split (d : Dev nD) (w : S4096x4096.Idx → BitVec 32) (st : S8x128.Idx → BitVec 32) (g : S2097152.Idx → BitVec 32) :
    iprop((xLoc d ↦{fullShare} w) ∗ (sLoc d ↦{fullShare} st) ∗ (oLoc2 d ↦{fullShare} g))
      ⊢ (iprop((xLoc d ↦{Transfers.shareDrop fullShare 2} w) ∗ (sLoc d ↦{Transfers.shareDrop fullShare 2} st)
          ∗ bigSep Finset.univ fun c : Fin 2 => core2 (F := F) d c.val w st g) : sProp 𝕄) := by
  unfold core2
  rw [out2_blocks, bigSep_sep', bigSep_sep']
  iintro ⟨Hx, Hs, Ho⟩
  ihave H := (Transfers.pointsTo_toks_split fullShare 2) $$ Hx
  icases H with ⟨Hr, Ht⟩
  ihave H := (Transfers.pointsTo_toks_split fullShare 2) $$ Hs
  icases H with ⟨Hq, Hu⟩
  isplitl [Hr]; · iexact Hr
  isplitl [Hq]; · iexact Hq
  isplitl [Ht]; · iexact Ht
  isplitl [Hu]; · iexact Hu
  iexact Ho

omit [FloatOps F] in
theorem cores2_join (d : Dev nD) (w : S4096x4096.Idx → BitVec 32) (st : S8x128.Idx → BitVec 32) (g : S2097152.Idx → BitVec 32) :
    iprop((xLoc d ↦{Transfers.shareDrop fullShare 2} w) ∗ (sLoc d ↦{Transfers.shareDrop fullShare 2} st)
          ∗ bigSep Finset.univ fun c : Fin 2 => core2 (F := F) d c.val w st g)
      ⊢ (iprop((xLoc d ↦{fullShare} w) ∗ (sLoc d ↦{fullShare} st) ∗ (oLoc2 d ↦{fullShare} g)) : sProp 𝕄) := by
  unfold core2
  rw [out2_blocks, bigSep_sep', bigSep_sep']
  iintro ⟨Hr, Hq, Ht, Hu, Ho⟩
  isplitl [Hr Ht]
  · iapply (Transfers.pointsTo_toks_join fullShare 2)
    isplitl [Hr]; · iexact Hr
    iexact Ht
  isplitl [Hq Hu]
  · iapply (Transfers.pointsTo_toks_join fullShare 2)
    isplitl [Hq]; · iexact Hq
    iexact Hu
  iexact Ho

/-! ## What the handshakes carry -/

variable (m : (ℓ : Loc nD τ sig) → Buf (Elt F) ℓ)

/-- Each SparseCore's part of a call, and of it each tile's; back come the same with the tables written. -/
def P : (K (F := F)).Pay (nD := nD) (Val := Elt F) (Name := ℕ) (U := UU) where
  st := fun q d c => match q with
    | 0 => core0 (F := F) d c.val (m (xLoc d)) (m (oLoc0 d))
    | 1 => core2 (F := F) d c.val (m (xLoc d)) (st1 (F := F) (m (xLoc d))) (m (oLoc2 d))
  dn := fun q d c => match q with
    | 0 => core0 (F := F) d c.val (m (xLoc d)) (tables hit0 (m (xLoc d)))
    | 1 => core2 (F := F) d c.val (m (xLoc d)) (st1 (F := F) (m (xLoc d))) (out2 (F := F) (m (xLoc d)))
  go := fun q d c i => match q with
    | 0 => task0 (F := F) d c.val i.val (m (xLoc d)) (m (oLoc0 d))
    | 1 => task2 (F := F) d c.val i.val (m (xLoc d)) (st1 (F := F) (m (xLoc d))) (m (oLoc2 d))
  td := fun q d c i => match q with
    | 0 => task0 (F := F) d c.val i.val (m (xLoc d)) (tables hit0 (m (xLoc d)))
    | 1 => task2 (F := F) d c.val i.val (m (xLoc d)) (st1 (F := F) (m (xLoc d))) (out2 (F := F) (m (xLoc d)))
  x := fun _ _ => iprop(emp)

omit [FloatOps F] in
theorem core0_storable (d : Dev nD) (c : ℕ) (w : S4096x4096.Idx → BitVec 32) (g : S2097152.Idx → BitVec 32) :
    BI.Storable (upEmb : UEmb _ 𝕄) (core0 (F := F) d c w g) := by
  unfold core0; infer_instance
omit [FloatOps F] in
theorem core2_storable (d : Dev nD) (c : ℕ) (w : S4096x4096.Idx → BitVec 32) (st : S8x128.Idx → BitVec 32) (g : S2097152.Idx → BitVec 32) :
    BI.Storable (upEmb : UEmb _ 𝕄) (core2 (F := F) d c w st g) := by
  unfold core2; infer_instance
omit [FloatOps F] in
theorem task0_storable (d : Dev nD) (c j : ℕ) (w : S4096x4096.Idx → BitVec 32) (g : S2097152.Idx → BitVec 32) :
    BI.Storable (upEmb : UEmb _ 𝕄) (task0 (F := F) d c j w g) := by
  unfold task0; infer_instance
omit [FloatOps F] in
theorem task2_storable (d : Dev nD) (c j : ℕ) (w : S4096x4096.Idx → BitVec 32) (st : S8x128.Idx → BitVec 32) (g : S2097152.Idx → BitVec 32) :
    BI.Storable (upEmb : UEmb _ 𝕄) (task2 (F := F) d c j w st g) := by
  unfold task2; infer_instance

instance P_storable : (P (F := F) m).IsStorable where
  st q d c := match q with | 0 => core0_storable d c.val _ _ | 1 => core2_storable d c.val _ _ _
  dn q d c := match q with | 0 => core0_storable d c.val _ _ | 1 => core2_storable d c.val _ _ _
  go q d c i := match q with | 0 => task0_storable d c.val i.val _ _ | 1 => task2_storable d c.val i.val _ _ _
  td q d c i := match q with | 0 => task0_storable d c.val i.val _ _ | 1 => task2_storable d c.val i.val _ _ _

theorem vecSplit0 : (K (F := F)).VecSplit' (P m) 0 := by
  intro d c
  exact core0_split d c.val _ _ _

theorem vecSplit1 : (K (F := F)).VecSplit' (P m) 1 := by
  intro d c
  exact core2_split d c.val _ _ _ _

/-! ## The tiles' obligations -/

/-- The grid point of a SparseCore and a tile. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_pass0 (c : Fin τ.nSC) (s : Fin τ.nSub) :
    defs₀ (F := F) (.scVector c s) 0 () = SparseCore.onTile hcore0 hsub0 (fun c s => cc0__hist_body (coordsOf c s) xM (Memref.isWhole_whole _) oM0 (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0) ⟨⟩ c s := rfl

theorem defs₀_pass2 (c : Fin τ.nSC) (s : Fin τ.nSub) :
    defs₀ (F := F) (.scVector c s) 2 () = SparseCore.onTile hcore2 hsub2 (fun c s => cc2__hist_body (coordsOf c s) xM (Memref.isWhole_whole _) sM (Memref.isWhole_whole _) oM2 (Memref.isWhole_whole _) (Memref.whole cc2_scratch0) (Memref.isWhole_whole _)
            (Memref.whole cc2_scratch1) (Memref.isWhole_whole _) (Memref.whole cc2_scratch2) (Memref.isWhole_whole _) (Memref.whole cc2_scratch3) (Memref.isWhole_whole _) cc2_scratch4 cc2_scratch5 cc2_scoped0 cc2_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ Owe thr O W)
      ⊢ iprop(A ∗ B ∗ C ∗ ∃ W' : Waits sig (HIx 2), ⌜∀ p ∈ W', p ∈ W ∨ p.2 = none ∨ p.2 = some q⌝ ∗ owes thr O W') := by
  unfold Owe
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_pass0]; simp only [SparseCore.onTile, hci, and_self, ↓reduceDIte]
  exact (wp_body0 d (coordsOf ⟨_, hci.1⟩ ⟨_, hci.2⟩) O W hO (m (xLoc d)) (m (oLoc0 d))).trans (wp_mono frame _ _ fun _ => obl_post)

set_option maxRecDepth 16384 in
theorem tileObl1 : (K (F := F)).TileObl (D (F := F)) 𝒱 (P m) v₀ 1 := by
  intro d c i O W hO _ _
  simp only [show (P (F := F) m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_pass2]; simp only [SparseCore.onTile, hci, and_self, ↓reduceDIte]
  exact (wp_body2 d (coordsOf ⟨_, hci.1⟩ ⟨_, hci.2⟩) O W hO (m (xLoc d)) (st1 (F := F) (m (xLoc d))) (pre1 (F := F) (m (xLoc d)))
    (st1_row (m (xLoc d))) (m (oLoc2 d))).trans (wp_mono frame _ _ fun _ => obl_post)

end Cert.Proof.Run

end
-- ==== Proof.Main.lean ====
/-
  @main on the TensorCore: the two SparseCore calls, the two selects and the mask, each step over the arrays it touches;
  and the run of the whole program.
-/
module

public import proofs.«01_k».proof.Proof.Launch

@[expose] public section

noncomputable section

namespace Cert.Proof.Run

open Cert.KernelIdeal Cert.KernelIdeal.Gen Cert.Proof.Keys Cert.Proof.Hist

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The launch element -/

/-- The cells the three pipelines use, and their tokens. -/
def pipeU : UP := initOf (Pipeline.cells (Pipeline.pin (pcfgs (F := F)) adm) (launch1.toP.cellOf_inj adm)) (Pipeline.launchToks (Pipeline.pin (pcfgs (F := F)) adm) (launch1.toP.cellOf_inj adm))

def u₀ : UU := (initOf (K (F := F)).hsCells (K (F := F)).hsToks, (pipeU (F := F), 1))

/-- What @main is handed of it: each region's ghost state. -/
def G (d : Dev nD) : sProp 𝕄 := iprop(ghost (F := F) 0 d ∗ ghost 1 d ∗ ghost 2 d)

theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem fund : BI.own (EP (F := F) (pipeU (F := F))) ⊢ (iprop(|==> bigSep Finset.univ fun d : Dev nD => G (F := F) d) : sProp 𝕄) := by
  have h := Pipeline.fund_ghost (Pipeline.pin (pcfgs (F := F)) adm) (EP (F := F)) (launch1.toP.cellOf_inj adm)
  have e : (bigSep Finset.univ fun d : Dev nD => G (F := F) d)
      = iprop((bigSep Finset.univ fun c : Dev nD => bigSep Finset.univ fun p => Pipeline.cellsGhost (Pipeline.pin (pcfgs (F := F)) adm) (EP (F := F)) p c)
          ∗ (bigSep Finset.univ fun c : Dev nD => bigSep Finset.univ fun p => Pipeline.toksInit (Pipeline.pin (pcfgs (F := F)) adm) (EP (F := F)) p c)) := by
    rw [← bigSep_sep']
    refine bigSep_congr fun d _ => ?_
    rw [← bigSep_sep', three]
    rfl
  rw [e]
  exact h

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_parts (initOf (K (F := F)).hsCells (K (F := F)).hsToks) (pipeU (F := F))) $$ Hu
  icases H with ⟨HH, HP⟩
  imod fund $$ HP with HG
  imodintro
  isplitl [HH]; · iexact HH
  isplitl [HG]; · iexact HG
  rw [show (bigSep Finset.univ fun thr : Thread nD τ => bigSep Finset.univ fun q : Fin 2 => (P (F := F) m).x q thr) = bigSep Finset.univ fun _ => iprop(emp) from
    bigSep_congr fun _ _ => bigSep_emp_const _]
  exact Entails.of_eq (bigSep_emp_const _).symm

/-! ## @main -/

omit [FloatOps F] in
theorem unscoped (d : Dev nD) (W : (b : Ref sig .tc) → Buf (Elt F) ((d.tc : Thread nD τ).loc b)) :
    (unscopedBufs d W : sProp 𝕄) = iprop(at_ d main_arg0 (W main_arg0) ∗ at_ d main_arg1 (W main_arg1) ∗ at_ d main_v0 (W main_v0) ∗ at_ d main_v1 (W main_v1)
      ∗ at_ d main_v2 (W main_v2) ∗ at_ d main_v3 (W main_v3) ∗ at_ d main_v4 (W main_v4) ∗ at_ d main_v5 (W main_v5) ∗ at_ d main_v6 (W main_v6) ∗ at_ d main_v7 (W main_v7)) := by
  unfold unscopedBufs
  rw [show (Finset.univ.filter fun b : Ref sig .tc => ¬ b.isScoped) = {main_arg0, main_arg1, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The TensorCore's state before call `n`, what it owes set apart. -/
theorem owes_apart (d : Dev nD) (n : ℕ) : ∃ R : sProp 𝕄, (K (F := F)).tcSt EH d n = iprop(Owes (F := F) d n ∗ R) := by
  unfold SparseCore.Cfg.tcSt Owes
  exact ⟨_, rfl⟩

/-- The result: the weight masked at the key the two selects choose. -/
def outAt (d : Dev nD) : S4096x4096.Idx → Elt F .f32 :=
  masked (F := F) (keyAt (F := F) (m (xLoc d))) (m ((d : Thread nD τ).loc main_arg0)) (m (xLoc d))

abbrev FIN (d : Dev nD) : sProp 𝕄 :=
  iprop(at_ d main_arg0 (m ((d : Thread nD τ).loc main_arg0)) ∗ at_ d main_arg1 (m ((d : Thread nD τ).loc main_arg1)) ∗ at_ d main_v7 (outAt (F := F) m d))

section

variable [∀ e, Nonempty (Elt F e)]

/-- @main, step by step. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R1, e1⟩ := owes_apart (F := F) d 1
  obtain ⟨R2, e2⟩ := owes_apart (F := F) d 2
  have e1' : (K (F := F)).tcSt EH d ((0 : Fin 2).val + 1) = iprop(Owes (F := F) d 1 ∗ R1) := e1
  have e1'' : (K (F := F)).tcSt EH d (1 : Fin 2).val = iprop(Owes (F := F) d 1 ∗ R1) := e1
  have e2' : (K (F := F)).tcSt EH d ((1 : Fin 2).val + 1) = iprop(Owes (F := F) d 2 ∗ R2) := e2
  unfold SparseCore.Cfg.tcRes SparseCore.Cfg.tcEnd G
  rw [unscoped]
  simp only [main, wp_bind, wp_pure]
  iintro ⟨#Hctx, Hst, ⟨Hb, ⟨H0, H1, Hv0, Hv1, Hv2, Hv3, Hv4, Hv5, Hv6, Hv7⟩, Hts, -⟩, Hg0, Hg1, Hg2⟩
  ihave #Hlev := (SparseCore.Cfg.ctx_levAts κ) $$ Hctx
  -- the first pass
  ihave H := (cores0_split d (m (xLoc d)) (m (oLoc0 d))) $$ [H1 Hv0]
  · isplitl [H1]; · iexact H1
    iexact Hv0
  icases H with ⟨Hx, Hcores⟩
  iapply ((K (F := F)).wp_run (D (F := F)) 𝒱 (EH := EH) (P := P m) κ d 0)
  isplitr; · iexact Hctx
  isplitl [Hst]; · iexact Hst
  isplitl [Hcores]; · iexact Hcores
  iintro ⟨Hst, Hdn⟩
  ihave H := (cores0_join d (m (xLoc d)) (tables hit0 (m (xLoc d)))) $$ [Hx Hdn]
  · isplitl [Hx]; · iexact Hx
    iexact Hdn
  icases H with ⟨H1, Hv0⟩
  -- its tables reshaped
  iapply (host_step m d (x := main_v0) (y := main_v1) (by decide) _ rfl rfl rfl (tables hit0 (m (xLoc d))) _ (tab1 (m (xLoc d)))
    (fun V hV => by rw [StableHlo.reshape_result, hV]; rfl))
  isplitl [Hb]; · iexact Hb
  isplitl [Hv0]; · iexact Hv0
  isplitl [Hv1]; · iexact Hv1
  iintro ⟨Hb, Hv0, Hv1⟩
  -- the first select
  ihave H := (Entails.of_eq e1') $$ Hst
  icases H with ⟨Ho, Hr⟩
  iapply (region1_run (tab1 (m (xLoc d))) (m (sLoc d)) (tab1 (m (xLoc d))) (m (sLoc d)) (m (sLoc d)) (keyAt (F := F) (m (xLoc d)))
    (m ((d : Thread nD τ).loc main_arg0)) (m ((d : Thread nD τ).loc main_arg0)) (m (xLoc d)) d)
  isplitl [Hb]; · iexact Hb
  isplitl [Hv1 Hv2 Ho]
  · isplitr [Ho]
    · isplitl [Hv1]; · iexact Hv1
      iexact Hv2
    iexact Ho
  isplitr; · iexact Hlev
  isplitl [Hg0]; · iexact Hg0
  iintro ⟨Hb, ⟨Hv1, Hv2⟩, Ho⟩
  ihave Hst := (Entails.of_eq e1''.symm) $$ [Ho Hr]
  · isplitl [Ho]; · iexact Ho
    iexact Hr
  -- the second pass
  ihave H := (cores2_split d (m (xLoc d)) (st1 (F := F) (m (xLoc d))) (m (oLoc2 d))) $$ [H1 Hv2 Hv3]
  · isplitl [H1]; · iexact H1
    isplitl [Hv2]; · iexact Hv2
    iexact Hv3
  icases H with ⟨Hx, Hs, Hcores⟩
  iapply ((K (F := F)).wp_run (D (F := F)) 𝒱 (EH := EH) (P := P m) κ d 1)
  isplitr; · iexact Hctx
  isplitl [Hst]; · iexact Hst
  isplitl [Hcores]; · iexact Hcores
  iintro ⟨Hst, Hdn⟩
  ihave H := (cores2_join d (m (xLoc d)) (st1 (F := F) (m (xLoc d))) (out2 (F := F) (m (xLoc d)))) $$ [Hx Hs Hdn]
  · isplitl [Hx]; · iexact Hx
    isplitl [Hs]; · iexact Hs
    iexact Hdn
  icases H with ⟨H1, Hv2, Hv3⟩
  iapply (host_step m d (x := main_v3) (y := main_v4) (by decide) _ rfl rfl rfl (out2 (F := F) (m (xLoc d))) _ (tab2 (F := F) (m (xLoc d)))
    (fun V hV => by rw [StableHlo.reshape_result, hV]; rfl))
  isplitl [Hb]; · iexact Hb
  isplitl [Hv3]; · iexact Hv3
  isplitl [Hv4]; · iexact Hv4
  iintro ⟨Hb, Hv3, Hv4⟩
  -- the second select
  ihave H := (Entails.of_eq e2') $$ Hst
  icases H with ⟨Ho, Hr⟩
  iapply (region3_run (tab1 (m (xLoc d))) (m (sLoc d)) (tab2 (F := F) (m (xLoc d))) (st1 (F := F) (m (xLoc d))) (m ((d : Thread nD τ).loc main_v5)) (keyAt (F := F) (m (xLoc d)))
    (m ((d : Thread nD τ).loc main_arg0)) (m ((d : Thread nD τ).loc main_arg0)) (m (xLoc d)) d)
  isplitl [Hb]; · iexact Hb
  isplitl [Hv4 Hv2 Hv5 Ho]
  · isplitr [Ho]
    · isplitl [Hv4]; · iexact Hv4
      isplitl [Hv2]; · iexact Hv2
      iexact Hv5
    iexact Ho
  isplitr; · iexact Hlev
  isplitl [Hg1]; · iexact Hg1
  iintro ⟨Hb, ⟨Hv4, Hv2, Hv5⟩, Ho⟩
  -- its key sliced out
  iapply (host_step m d (x := main_v5) (y := main_v6) (by decide) _ rfl rfl rfl (st2 (F := F) (m (xLoc d))) _ (keyAt (F := F) (m (xLoc d)))
    (fun V hV => by rw [StableHlo.unary_result, hV]; rfl))
  isplitl [Hb]; · iexact Hb
  isplitl [Hv5]; · iexact Hv5
  isplitl [Hv6]; · iexact Hv6
  iintro ⟨Hb, Hv5, Hv6⟩
  -- the mask
  iapply (region4_run (tab1 (m (xLoc d))) (m (sLoc d)) (tab2 (F := F) (m (xLoc d))) (st1 (F := F) (m (xLoc d))) (m ((d : Thread nD τ).loc main_v5)) (keyAt (F := F) (m (xLoc d)))
    (m ((d : Thread nD τ).loc main_arg0)) (m ((d : Thread nD τ).loc main_v7)) (m (xLoc d)) d)
  isplitl [Hb]; · iexact Hb
  isplitl [Hv6 H0 H1 Hv7 Ho]
  · isplitr [Ho]
    · isplitl [Hv6]; · iexact Hv6
      isplitl [H0]; · iexact H0
      isplitl [H1]; · iexact H1
      iexact Hv7
    iexact Ho
  isplitr; · iexact Hlev
  isplitl [Hg2]; · iexact Hg2
  iintro ⟨Hb, ⟨Hv6, H0, H1, Hv7⟩, Ho⟩
  ihave Hst := (Entails.of_eq e2.symm) $$ [Ho Hr]
  · isplitl [Ho]; · iexact Ho
    iexact Hr
  imodintro
  isplitl [Hst]; · iexact Hst
  isplitl [H0 H1 Hv7]
  · isplitl [H0]; · iexact H0
    isplitl [H1]; · iexact H1
    iexact Hv7
  isplitl [Hb]; · iexact Hb
  iexact Hts

end

/-! ## The run -/

/-- What holds of the memory a run ends in: the arguments as they were, the result the masked weight. -/
def Ends (d : Dev nD) (s : (ℓ : Loc nD τ sig) → Buf (Elt F) ℓ) : Prop :=
  s ((d : Thread nD τ).loc main_arg0) = m ((d : Thread nD τ).loc main_arg0) ∧ s ((d : Thread nD τ).loc main_arg1) = m ((d : Thread nD τ).loc main_arg1)
    ∧ s ((d : Thread nD τ).loc main_v7) = outAt (F := F) m d

theorem agree (d : Dev nD) (b : Ref sig .tc) (f : Buf (Elt F) ((d : Thread nD τ).loc b)) (s : Phys nD τ sig (Elt F)) :
    iprop(at_ d b f ∗ SI s) ⊢ (iprop(⌜s.mem.mem ((d : Thread nD τ).loc b) = f⌝ ∗ SI s) : sProp 𝕄) := by
  iintro ⟨H, HSI⟩
  ihave H := (persistent_entails_right (SI_pointsTo_agree (st := s) (ℓ := (d : Thread nD τ).loc b) (I := Finset.univ) (q := fullShare) (f := f))) $$ [HSI H]
  · isplitl [HSI]; · iexact HSI
    iexact H
  icases H with ⟨%h, HSI, -⟩
  isplitr
  · ipureintro; exact funext fun i => h i (Finset.mem_univ i)
  iexact HSI

set_option maxRecDepth 16384 in
theorem hfin (d : Dev nD) (s : Phys nD τ sig (Elt F)) : iprop(FIN m d ∗ SI s) ⊢ (⌜Ends m d s.mem.mem⌝ : sProp 𝕄) := by
  iintro ⟨⟨H0, H1, H7⟩, HSI⟩
  ihave H := (agree d main_arg0 _ s) $$ [H0 HSI]
  · isplitl [H0]; · iexact H0
    iexact HSI
  icases H with ⟨%h0, HSI⟩
  ihave H := (agree d main_arg1 _ s) $$ [H1 HSI]
  · isplitl [H1]; · iexact H1
    iexact HSI
  icases H with ⟨%h1, HSI⟩
  ihave H := (agree d main_v7 _ s) $$ [H7 HSI]
  · isplitl [H7]; · iexact H7
    iexact HSI
  icases H with ⟨%h7, -⟩
  ipureintro; exact ⟨h0, h1, h7⟩

/-- Every run of the program ends, with its semaphores at zero, the arguments kept and the result the masked weight. -/
theorem run_main [∀ e, Nonempty (Elt F e)] :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => match q with | 0 => SparseCore.Cfg.VecSplit.of_plain (vecSplit0 m) | 1 => SparseCore.Cfg.VecSplit.of_plain (vecSplit1 m))
    m ρ main (G (F := F)) (FIN m) (u₀ (F := F)) (sep_elim_left.trans (hu₀ m)) (hmain m ρ) (fun d s => Ends m d s.mem.mem) (hfin m)
    (fun r => (∀ d : Dev nD, Ends m d r.2.mem) ∧ r.2.sem = fun _ => 0) (fun _ h hz => ⟨h, hz⟩)

end Cert.Proof.Run

end
-- ==== Proof.Frames.lean ====
/-
  The kernel and its idealization are one text: each part of the one is that part of the other. So the run proved of the
  idealization, at any floats, is the kernel's at its own.
-/
module

public import proofs.«01_k».proof.Defs
public import proofs.«01_k».proof.Proof.Gen.Kernel
public import proofs.«01_k».proof.Proof.Main

@[expose] public section

noncomputable section

namespace Cert.Proof

open Idealize.ShloMosaic Idealize.SL.Sem

theorem hist0_eq : @Cert.Kernel.cc0__hist_body Bits _ _ = @Cert.KernelIdeal.cc0__hist_body Bits _ _ := rfl
theorem select1_eq : @Cert.Kernel.cc1__select_body Bits _ _ = @Cert.KernelIdeal.cc1__select_body Bits _ _ := rfl
theorem hist2_eq : @Cert.Kernel.cc2__hist_body Bits _ _ = @Cert.KernelIdeal.cc2__hist_body Bits _ _ := rfl
theorem select3_eq : @Cert.Kernel.cc3__select_body Bits _ _ = @Cert.KernelIdeal.cc3__select_body Bits _ _ := rfl
theorem mask4_eq : @Cert.Kernel.cc4__mask_body Bits _ _ = @Cert.KernelIdeal.cc4__mask_body Bits _ _ := rfl

set_option maxHeartbeats 8000000 in
/-- The tables of the bodies, processor by processor and label by label. -/
theorem bodies_eq : @Cert.Kernel.defs₀ Bits _ _ = @Cert.KernelIdeal.defs₀ Bits _ _ := by
  funext p ℓ a
  cases p with
  | tc =>
    match ℓ, a with
    | ⟨0, _⟩, _ => rfl
    | ⟨1, _⟩, (_, _) => rfl
    | ⟨2, _⟩, _ => rfl
    | ⟨3, _⟩, (_, _) => rfl
    | ⟨4, _⟩, (_, _) => rfl
  | scScalar c =>
    match ℓ, a with
    | ⟨0, _⟩, _ => rfl
    | ⟨1, _⟩, (_, _) => rfl
    | ⟨2, _⟩, _ => rfl
    | ⟨3, _⟩, (_, _) => rfl
    | ⟨4, _⟩, (_, _) => rfl
  | scVector c s =>
    match ℓ, a with
    | ⟨0, _⟩, _ => rfl
    | ⟨1, _⟩, (_, _) => rfl
    | ⟨2, _⟩, _ => rfl
    | ⟨3, _⟩, (_, _) => rfl
    | ⟨4, _⟩, (_, _) => rfl

set_option maxHeartbeats 8000000 in
theorem windows_eq : @Cert.Kernel.pcfgs Bits _ = @Cert.KernelIdeal.pcfgs Bits _ := rfl
set_option maxHeartbeats 8000000 in
theorem calls_eq : @Cert.Kernel.sc Bits _ = @Cert.KernelIdeal.sc Bits _ := rfl

set_option maxHeartbeats 8000000 in
theorem table_eq : @Cert.Kernel.defs Bits _ _ = @Cert.KernelIdeal.defs Bits _ _ := by
  show Cert.KernelIdeal.sc.defs (Pipeline.defs Cert.KernelIdeal.pcfgs (@Cert.Kernel.defs₀ Bits _ _)) = Cert.KernelIdeal.sc.defs (Pipeline.defs Cert.KernelIdeal.pcfgs (@Cert.KernelIdeal.defs₀ Bits _ _))
  rw [bodies_eq]

set_option maxHeartbeats 8000000 in
theorem main_eq : @Cert.Kernel.main Bits _ = @Cert.KernelIdeal.main Bits _ := rfl

set_option maxHeartbeats 8000000 in
theorem threads_eq : @Cert.Kernel.threads Bits _ = @Cert.KernelIdeal.threads Bits _ := by
  show Cert.KernelIdeal.sc.threads (@Cert.Kernel.main Bits _) = Cert.KernelIdeal.sc.threads (@Cert.KernelIdeal.main Bits _)
  rw [main_eq]

set_option maxHeartbeats 8000000 in
/-- The kernel runs at its own floats. -/
theorem frame_kernel : Cert.quiescent_Kernel := fun m ρ _ => by
  rw [table_eq, threads_eq]
  exact (θ_run Cert.KernelIdeal.defs _ _).mono (fun _ h => ⟨fun c => ⟨(h.1 c).1, (h.1 c).2.1⟩, h.2⟩) (Run.run_main (F := Bits) m ρ)

/-- The idealized kernel runs. -/
theorem frame_ideal : Cert.quiescent_KernelIdeal := fun m ρ _ =>
  (θ_run Cert.KernelIdeal.defs _ _).mono (fun _ h => ⟨fun c => ⟨(h.1 c).1, (h.1 c).2.1⟩, h.2⟩) (Run.run_main (F := Ideal) m ρ)

end Cert.Proof

end
-- ==== Proof.Totals.lean ====
/-
  The tiles' tables together: the cells of the 32 tables at one bin add to the number of all the words that hit it.
-/
module

public import proofs.«01_k».proof.Proof.Launch

@[expose] public section

namespace Cert.Proof.Totals

open Cert.KernelIdeal Cert.KernelIdeal.Gen Cert.Proof.Hist Cert.Proof.Run
open Idealize.ShloMosaic Idealize.ShloMosaic.ValueIdx
open Finset

/-- Which tile a row belongs to, and at which place of the tile's order an entry comes. -/
def tileOf (p : S4096x4096.Idx) : ℕ := (p 0).val / 128
def placeOf (p : S4096x4096.Idx) : ℕ := (p 0).val % 128 / 8 * 32768 + (p 1).val / 2048 * 16384 + (p 0).val % 8 * 2048 + (p 1).val % 2048

theorem elt_val0 (b e : ℕ) (h : b + e / 32768 * 8 + e % 16384 / 2048 < 4096) : (elt b e 0).val = b + e / 32768 * 8 + e % 16384 / 2048 :=
  Nat.mod_eq_of_lt h

theorem elt_val1 (b e : ℕ) : (elt b e 1).val = e / 16384 % 2 * 2048 + e % 2048 :=
  Nat.mod_eq_of_lt (by omega)

theorem place_arith (t e : ℕ) (he : e < 524288) :
    (128 * t + e / 32768 * 8 + e % 16384 / 2048) % 128 / 8 * 32768 + (e / 16384 % 2 * 2048 + e % 2048) / 2048 * 16384
      + (128 * t + e / 32768 * 8 + e % 16384 / 2048) % 8 * 2048 + (e / 16384 % 2 * 2048 + e % 2048) % 2048 = e := by
  have hb : e % 16384 / 2048 < 8 := by omega
  have ha : e / 32768 < 16 := by omega
  rw [show (128 * t + e / 32768 * 8 + e % 16384 / 2048) % 128 / 8 = e / 32768 by omega,
    show (128 * t + e / 32768 * 8 + e % 16384 / 2048) % 8 = e % 16384 / 2048 by omega,
    show (e / 16384 % 2 * 2048 + e % 2048) / 2048 = e / 16384 % 2 by omega,
    show (e / 16384 % 2 * 2048 + e % 2048) % 2048 = e % 2048 by omega]
  omega

/-- Every entry is in one tile's order once: so counts over the tiles' orders add to the count over the array. -/
theorem sum_tally (hit : BitVec 32 → ℕ → Bool) (w : S4096x4096.Idx → BitVec 32) (n : ℕ) :
    ∑ t ∈ range 32, tally hit (fun e => w (elt (128 * t) e)) 524288 n = (univ.filter fun p => hit (w p) n = true).card := by
  unfold tally
  rw [← card_sigma]
  refine card_bij' (fun te _ => elt (128 * te.1) te.2) (fun p _ => ⟨tileOf p, placeOf p⟩) ?_ ?_ ?_ ?_
  · intro te h
    rw [mem_sigma, mem_filter] at h
    exact mem_filter.2 ⟨mem_univ _, h.2.2⟩
  · intro p h
    have h0 := idx2_lt0 p
    have h1 := idx2_lt1 p
    have e : elt (128 * tileOf p) (placeOf p) = p := by
      unfold tileOf placeOf
      funext a
      apply Fin.ext
      match a with
      | ⟨0, _⟩ => exact (elt_val0 _ _ (by omega)).trans (by show _ = (p 0).val; omega)
      | ⟨1, _⟩ => exact (elt_val1 _ _).trans (by show _ = (p 1).val; omega)
    rw [mem_sigma, mem_filter, mem_range, mem_range]
    refine ⟨by show tileOf p < 32; unfold tileOf; omega, by show placeOf p < 524288; unfold placeOf; omega, ?_⟩
    show hit (w (elt (128 * tileOf p) (placeOf p))) n = true
    rw [e]
    exact (mem_filter.1 h).2
  · intro te h
    obtain ⟨t, e⟩ := te
    rw [mem_sigma, mem_filter, mem_range, mem_range] at h
    have ht : t < 32 := h.1
    have he : e < 524288 := h.2.1
    have v0 := elt_val0 (128 * t) e (by omega)
    have v1 := elt_val1 (128 * t) e
    have a1 : tileOf (elt (128 * t) e) = t := by unfold tileOf; rw [v0]; omega
    have a2 : placeOf (elt (128 * t) e) = e := by
      unfold placeOf
      rw [v0, v1]
      exact place_arith t e he
    show (⟨tileOf (elt (128 * t) e), placeOf (elt (128 * t) e)⟩ : Σ _ : ℕ, ℕ) = ⟨t, e⟩
    rw [a1, a2]
  · intro p h
    have h0 := idx2_lt0 p
    have h1 := idx2_lt1 p
    show elt (128 * tileOf p) (placeOf p) = p
    unfold tileOf placeOf
    funext a
    apply Fin.ext
    match a with
    | ⟨0, _⟩ => exact (elt_val0 _ _ (by omega)).trans (by show _ = (p 0).val; omega)
    | ⟨1, _⟩ => exact (elt_val1 _ _).trans (by show _ = (p 1).val; omega)

theorem tally_le (hit : BitVec 32 → ℕ → Bool) (X : ℕ → BitVec 32) (n b : ℕ) : tally hit X n b ≤ n :=
  (card_filter_le _ _).trans (card_range n).le

/-- The tables in the shape the selections read them. -/
theorem table_at (hit : BitVec 32 → ℕ → Bool) (w : S4096x4096.Idx → BitVec 32) (t : Fin 32) (r : Fin 512) (l : Fin 128) :
    (shapeCast S32x512x128 (tables hit w) shapeCasts_S2097152_S32x512x128 (ValueIdx.ix3 t r l)).toNat
      = tally hit (fun e => w (elt (128 * t.val) e)) 524288 (128 * r.val + l.val) := by
  have hl : (t.val * 512 + r.val) * 128 + l.val < 2097152 := by omega
  rw [shapeCast_apply (tables hit w) shapeCasts_S2097152_S32x512x128 (ValueIdx.ix3 t r l) (ValueIdx.ix1 ⟨(t.val * 512 + r.val) * 128 + l.val, hl⟩) (by
    rw [Shape.rowMajor_val_three, Shape.rowMajor_val_one]; rfl)]
  show (BitVec.ofNat 32 (tally hit (fun e => w (elt (128 * (((t.val * 512 + r.val) * 128 + l.val) / 65536)) e)) 524288 (((t.val * 512 + r.val) * 128 + l.val) % 65536))).toNat = _
  rw [show ((t.val * 512 + r.val) * 128 + l.val) / 65536 = t.val by omega, show ((t.val * 512 + r.val) * 128 + l.val) % 65536 = 128 * r.val + l.val by omega,
    BitVec.toNat_ofNat]
  exact Nat.mod_eq_of_lt ((tally_le _ _ _ _).trans_lt (by norm_num))

end Cert.Proof.Totals
-- ==== Proof.Radix.lean ====
/-
  Selecting by two digits. Of finitely many numbers below `2 ^ 32`, the `k`-th smallest is found from two tables of
  65536 counts: of the high halves, and of the low halves of those numbers whose high half is the one the first table
  names. Nothing here speaks of the program.
-/
module

public import Idealize.ShloMosaic.PureOps

@[expose] public section

namespace Cert.Proof.Radix

open Finset

/-- The total of the cells of `t` below `b`. -/
def upTo (t : ℕ → ℕ) (b : ℕ) : ℕ := ∑ i ∈ range b, t i

/-- The number of the first `M` cells of `t` whose running total, themselves included, is below `k`. -/
def rank (t : ℕ → ℕ) (M k : ℕ) : ℕ := ((range M).filter fun b => upTo t (b + 1) < k).card

theorem upTo_succ (t : ℕ → ℕ) (b : ℕ) : upTo t (b + 1) = upTo t b + t b := sum_range_succ t b

theorem upTo_mono (t : ℕ → ℕ) {a b : ℕ} (h : a ≤ b) : upTo t a ≤ upTo t b := by
  obtain ⟨d, rfl⟩ := Nat.exists_eq_add_of_le h
  rw [upTo, upTo, sum_range_add]
  exact Nat.le_add_right _ _

/-- That number is the cell in which the running total reaches `k`. -/
theorem rank_spec (t : ℕ → ℕ) (M k : ℕ) (hk : 0 < k) (h : k ≤ upTo t M) :
    rank t M k < M ∧ upTo t (rank t M k) < k ∧ k ≤ upTo t (rank t M k) + t (rank t M k) := by
  obtain ⟨M', rfl⟩ : ∃ M', M = M' + 1 := by
    refine Nat.exists_eq_succ_of_ne_zero fun h0 => ?_
    subst h0
    exact absurd h (by simp [upTo]; omega)
  have hex : ∃ b, k ≤ upTo t (b + 1) := ⟨M', h⟩
  have hle : Nat.find hex ≤ M' := Nat.find_min' hex h
  have hr : rank t (M' + 1) k = Nat.find hex := by
    rw [rank, show ((range (M' + 1)).filter fun b => upTo t (b + 1) < k) = range (Nat.find hex) from ?_, card_range]
    ext b
    rw [mem_filter, mem_range, mem_range]
    constructor
    · rintro ⟨-, hb⟩
      by_contra hc
      have h1 := upTo_mono t (show Nat.find hex + 1 ≤ b + 1 by omega)
      have h2 := Nat.find_spec hex
      omega
    · intro hb
      exact ⟨by omega, not_le.1 (Nat.find_min hex hb)⟩
  rw [hr, ← upTo_succ]
  refine ⟨by omega, ?_, Nat.find_spec hex⟩
  rcases Nat.eq_zero_or_pos (Nat.find hex) with h0 | h0
  · rw [h0]; simpa [upTo] using hk
  · have := Nat.find_min hex (m := Nat.find hex - 1) (by omega)
    rw [Nat.sub_add_cancel h0] at this
    exact not_le.1 this

section
variable {ι : Type} [Fintype ι] (K : ι → ℕ)

/-- How many of the numbers have the high half `n`; -/
def highs (n : ℕ) : ℕ := (univ.filter fun i => K i / 65536 = n).card

/-- how many have the high half `p` and the low half `n`. -/
def lows (p n : ℕ) : ℕ := (univ.filter fun i => K i / 65536 = p ∧ K i % 65536 = n).card

theorem upTo_highs (b : ℕ) : upTo (highs K) b = (univ.filter fun i => K i / 65536 < b).card := by
  unfold upTo highs
  simp only [card_filter]
  rw [sum_comm]
  refine sum_congr rfl fun i _ => ?_
  rw [sum_ite_eq]
  simp only [mem_range]

theorem upTo_lows (p b : ℕ) : upTo (lows K p) b = (univ.filter fun i => K i / 65536 = p ∧ K i % 65536 < b).card := by
  unfold upTo lows
  simp only [card_filter]
  rw [sum_comm]
  refine sum_congr rfl fun i _ => ?_
  by_cases hp : K i / 65536 = p
  · simp only [hp, true_and]
    rw [sum_ite_eq]
    simp only [mem_range]
  · simp [hp]

/-- The digits found this way: fewer than `k` of the numbers are below the number they make, and `k` or more are not
    above it. -/
theorem select (k : ℕ) (hk : 0 < k) (hN : k ≤ Fintype.card ι) (hK : ∀ i, K i < 65536 * 65536) (p k' q : ℕ)
    (hp : p = rank (highs K) 65536 k) (hk' : k' = k - upTo (highs K) p) (hq : q = rank (lows K p) 65536 k') :
    p < 65536 ∧ upTo (highs K) p ≤ k ∧ q < 65536 ∧ (univ.filter fun i => K i < p * 65536 + q).card < k
      ∧ k ≤ (univ.filter fun i => K i ≤ p * 65536 + q).card := by
  classical
  have h1 : k ≤ upTo (highs K) 65536 := by
    rw [upTo_highs, filter_true_of_mem fun i _ => by have := hK i; omega]
    exact hN
  obtain ⟨a1, a2, a3⟩ := rank_spec (highs K) 65536 k hk h1
  rw [← hp] at a1 a2 a3
  have h2 : k' ≤ upTo (lows K p) 65536 := by
    have e : upTo (lows K p) 65536 = highs K p := by
      rw [upTo_lows, highs]
      exact congrArg card (filter_congr fun i _ => and_iff_left (by omega))
    rw [e]; omega
  obtain ⟨b1, b2, b3⟩ := rank_spec (lows K p) 65536 k' (by omega) h2
  rw [← hq] at b1 b2 b3
  have below : ∀ b, b ≤ 65536 → upTo (highs K) p + upTo (lows K p) b = (univ.filter fun i => K i < p * 65536 + b).card := by
    intro b hb
    rw [upTo_highs, upTo_lows, ← card_union_of_disjoint, ← filter_or]
    · exact congrArg card (filter_congr fun i _ => by omega)
    · exact disjoint_filter.2 fun i _ h => by omega
  have c1 := below q (by omega)
  have c2 := below (q + 1) (by omega)
  rw [upTo_succ] at c2
  have c3 : (univ.filter fun i => K i < p * 65536 + (q + 1)) = univ.filter fun i => K i ≤ p * 65536 + q :=
    filter_congr fun i _ => by omega
  rw [c3] at c2
  exact ⟨a1, a2.le, b1, by omega, by omega⟩

end

end Cert.Proof.Radix
-- ==== Proof.SelectIdeal.lean ====
/-
  The two selections over the extended reals: of tables whose cells at one bin add to a small number, the running totals
  are exact, and what the selections leave is the cell in which the running total reaches the target and what of the
  target is left in it.
-/
module

public import proofs.«01_k».proof.Proof.Totals
public import proofs.«01_k».proof.Proof.Radix
public import Idealize.ShloMosaic.Lib.MatmulPlain
public import Idealize.ShloMosaic.Lib.Pointwise.Reduce
public import Idealize.ShloMosaic.Lib.Pointwise.Reshape
public import Idealize.ShloMosaic.Lib.WordSum

@[expose] public section

noncomputable section

namespace Cert.Proof.SelectIdeal

open Cert.KernelIdeal Cert.KernelIdeal.Gen Cert.Proof.Run Cert.Proof.Radix
open Idealize.ShloMosaic
open Finset

/-! ### Words and small numbers as extended reals -/

theorem sitofp_nat {w : ℕ} (b : BitVec w) (h : 2 * b.toNat < 2 ^ w) : (FloatOps.sitofp .f32 b : Ideal .f32) = (b.toNat : EReal) := by
  show ((b.toInt : ℝ) : EReal) = _
  rw [BitVec.toInt_eq_toNat_of_lt h, Int.cast_natCast, EReal.coe_natCast]

theorem ofNat_lt_iff (a b : ℕ) (ha : a < 2 ^ 31) (hb : b < 2 ^ 31) :
    (IntOp.cmpi .slt (BitVec.ofNat 32 a) (BitVec.ofNat 32 b) = BitVec.ofBool (decide (a < b)))
    ∧ (IntOp.cmpi .sle (BitVec.ofNat 32 a) (BitVec.ofNat 32 b) = BitVec.ofBool (decide (a ≤ b))) := by
  have ea : (BitVec.ofNat 32 a).toInt = a := by
    rw [BitVec.toInt_eq_toNat_of_lt (by rw [BitVec.toNat_ofNat]; omega), BitVec.toNat_ofNat]; omega
  have eb : (BitVec.ofNat 32 b).toInt = b := by
    rw [BitVec.toInt_eq_toNat_of_lt (by rw [BitVec.toNat_ofNat]; omega), BitVec.toNat_ofNat]; omega
  constructor
  · show BitVec.ofBool (decide ((BitVec.ofNat 32 a).toInt < (BitVec.ofNat 32 b).toInt)) = _
    rw [ea, eb]; simp
  · show BitVec.ofBool (decide ((BitVec.ofNat 32 a).toInt ≤ (BitVec.ofNat 32 b).toInt)) = _
    rw [ea, eb]; simp

/-- A truth value widened and converted is `0` or `1`. -/
theorem sitofp_bool (b : Bool) : (FloatOps.sitofp .f32 ((BitVec.ofBool b).setWidth 32) : Ideal .f32) = ((if b then 1 else 0 : ℕ) : EReal) := by
  rw [sitofp_nat _ (by cases b <;> decide)]
  cases b <;> rfl

theorem fptosi_nat (n : ℕ) (h : n < 2 ^ 31) : Ideal.fptosi 32 (n : EReal) = BitVec.ofNat 32 n := by
  rw [← EReal.coe_natCast]
  unfold Ideal.fptosi
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  rfl

theorem sub_nat (a b : ℕ) (h : b ≤ a) : (a : EReal) - (b : EReal) = ((a - b : ℕ) : EReal) := by
  rw [← EReal.coe_natCast, ← EReal.coe_natCast, ← EReal.coe_natCast, ← EReal.coe_sub, Nat.cast_sub h]

theorem target_eq : (Scalar.ofBits .f32 0x4B666667#32 : Ideal .f32) = ((15099495 : ℕ) : EReal) := by
  show Ideal.ofBits .f32 0x4B666667#32 = _
  have e1 : ((0x4B666667#32 : BitVec 32).extractLsb' (8 + 23) 1 == 1#1) = false := by decide
  have e2 : ((0x4B666667#32 : BitVec 32).extractLsb' 23 8).toNat = 150 := by decide
  have e3 : ((0x4B666667#32 : BitVec 32).extractLsb' 0 23).toNat = 6710887 := by decide
  simp only [Ideal.ofBits, Ideal.ieee, e1, e2, e3]
  rw [← EReal.coe_natCast]
  norm_num

/-! ### Running totals -/

/-- The cells of the 32 tables `h` at bin `b` are small and add to `t b`. -/
structure Sums (h : Vec Ideal S32x512x128 .i32) (t : ℕ → ℕ) : Prop where
  small : ∀ (w : Fin 32) (r : Fin 512) (l : Fin 128), 2 * BitVec.toNat (w := 32) (h (ValueIdx.ix3 w r l)) < 2 ^ 32
  sum : ∀ (r : Fin 512) (l : Fin 128), ∑ w : Fin 32, BitVec.toNat (w := 32) (h (ValueIdx.ix3 w r l)) = t (128 * r.val + l.val)

variable {h : Vec Ideal S32x512x128 .i32} {t : ℕ → ℕ}

theorem pay2_at (H : Sums h t) (r : Fin 512) (l : Fin 128) : k1_pay2 h (ValueIdx.ix2 r l) = (t (128 * r.val + l.val) : EReal) := by
  unfold k1_pay2
  rw [shapeCast_id]
  show (∑ i ∈ univ.filter (fun i => reduces_S32x512x128_S512x128.drop i = ValueIdx.ix2 r l), (sitofp .f32 h : FVec Ideal S32x512x128 .f32) i : EReal) = _
  rw [Shape.Reduces.sum_fiber_r3_a0]
  rw [← H.sum, Nat.cast_sum]
  exact sum_congr rfl fun w _ => sitofp_nat _ (H.small w r l)

theorem row_sum (f : ℕ → ℕ) (n m : ℕ) (hm : m ≤ n) : ∑ k : Fin n, (if k.val < m then f k.val else 0) = ∑ k ∈ range m, f k := by
  rw [Fin.sum_univ_eq_sum_range (fun k => if k < m then f k else 0) n, ← sum_filter]
  refine sum_congr ?_ fun _ _ => rfl
  ext k
  rw [mem_filter, mem_range, mem_range]
  omega

theorem upTo_add (t : ℕ → ℕ) (a b : ℕ) : upTo t (a + b) = upTo t a + ∑ k ∈ range b, t (a + k) := sum_range_add t a b

theorem upTo_rows (t : ℕ → ℕ) (m r : ℕ) : ∑ k ∈ range r, ∑ l ∈ range m, t (m * k + l) = upTo t (m * r) := by
  induction r with
  | zero => simp [upTo]
  | succ r ih => rw [sum_range_succ, ih, Nat.mul_succ, upTo_add]

theorem mul_ind (a : ℕ) (c : Prop) [Decidable c] : (a : EReal) * ((if c then 1 else 0 : ℕ) : EReal) = ((if c then a else 0 : ℕ) : EReal) := by
  rw [← EReal.natCast_mul, mul_ite, mul_one, mul_zero]

theorem ind_mul (a : ℕ) (c : Prop) [Decidable c] : ((if c then 1 else 0 : ℕ) : EReal) * (a : EReal) = ((if c then a else 0 : ℕ) : EReal) := by
  rw [← EReal.natCast_mul, ite_mul, one_mul, zero_mul]

theorem dot1_eq : dot_S512x128_S128x128_S512x128_1_0_0_1_n_n = DotDims.plain 512 128 128 := rfl
theorem dot2_eq : dot_S512x512_S512x1_S512x1_1_0_0_1_n_n = DotDims.plain 512 512 1 := rfl

/-- Ones on and above the diagonal; ones below it. -/
def upper : FVec Ideal S128x128 .f32 :=
  sitofp .f32 (extui 32 (cmpi .sle (iota .tc S128x128 32 [0] iota_S128x128_d0_w32) (iota .tc S128x128 32 [1] iota_S128x128_d1_w32)) natLt_1_32)
def lower : FVec Ideal S512x512 .f32 :=
  sitofp .f32 (extui 32 (cmpi .slt (iota .tc S512x512 32 [1] iota_S512x512_d1_w32) (iota .tc S512x512 32 [0] iota_S512x512_d0_w32)) natLt_1_32)

/-- The running totals along each row of 128 cells; and of all the rows above each row. -/
def alongRow (h : Vec Ideal S32x512x128 .i32) : FVec Ideal S512x128 .f32 :=
  matmul dot_S512x128_S128x128_S512x128_1_0_0_1_n_n (some .fp32) (k1_pay2 h) upper (constant S512x128 .f32 0x00000000#32)
def rowsAbove (h : Vec Ideal S32x512x128 .i32) : FVec Ideal S512x1 .f32 :=
  matmul dot_S512x512_S512x1_S512x1_1_0_0_1_n_n (some .fp32) lower (extractStridedSlice S512x1 ![0, 127] (alongRow h) slices_S512x128_o0_127_S512x1)
    (constant S512x1 .f32 0x00000000#32)

theorem pay3_eq (h : Vec Ideal S32x512x128 .i32) :
    k1_pay3 h = addf (alongRow h) (broadcastTo S512x128 (rowsAbove h) broadcasts_S512x1_S512x128) := rfl

theorem upper_at (k l : Fin 128) : upper (ValueIdx.ix2 k l) = ((if k.val < l.val + 1 then 1 else 0 : ℕ) : EReal) := by
  show (FloatOps.sitofp .f32 ((IntOp.cmpi .sle (BitVec.ofNat 32 (0 * 128 + k.val)) (BitVec.ofNat 32 (0 * 128 + l.val))).setWidth 32) : Ideal .f32) = _
  rw [Nat.zero_mul, Nat.zero_add, Nat.zero_add, (ofNat_lt_iff k.val l.val (by omega) (by omega)).2, sitofp_bool]
  simp [Nat.lt_succ_iff]

theorem lower_at (r k : Fin 512) : lower (ValueIdx.ix2 r k) = ((if k.val < r.val then 1 else 0 : ℕ) : EReal) := by
  show (FloatOps.sitofp .f32 ((IntOp.cmpi .slt (BitVec.ofNat 32 (0 * 512 + k.val)) (BitVec.ofNat 32 (0 * 512 + r.val))).setWidth 32) : Ideal .f32) = _
  rw [Nat.zero_mul, Nat.zero_add, Nat.zero_add, (ofNat_lt_iff k.val r.val (by omega) (by omega)).1, sitofp_bool]
  simp

theorem alongRow_at (H : Sums h t) (r : Fin 512) (l : Fin 128) :
    alongRow h (ValueIdx.ix2 r l) = ((∑ k ∈ range (l.val + 1), t (128 * r.val + k) : ℕ) : EReal) := by
  unfold alongRow
  rw [dot1_eq, matmul, Ideal.matmul_plain_apply, ValueIdx.constant_apply, Ideal.ofBits_zero_f32, zero_add,
    ← row_sum (fun k => t (128 * r.val + k)) 128 (l.val + 1) (by omega), Nat.cast_sum]
  refine sum_congr rfl fun k _ => ?_
  rw [pay2_at H, upper_at, mul_ind]

theorem rowsAbove_at (H : Sums h t) (r : Fin 512) : rowsAbove h (ValueIdx.ix2 r (0 : Fin 1)) = ((upTo t (128 * r.val) : ℕ) : EReal) := by
  unfold rowsAbove
  rw [dot2_eq, matmul, Ideal.matmul_plain_apply, ValueIdx.constant_apply, Ideal.ofBits_zero_f32, zero_add, ← upTo_rows,
    ← row_sum (fun k => ∑ l ∈ range 128, t (128 * k + l)) 512 r.val (by omega), Nat.cast_sum]
  refine sum_congr rfl fun k _ => ?_
  have e : extractStridedSlice S512x1 ![0, 127] (alongRow h) slices_S512x128_o0_127_S512x1 (ValueIdx.ix2 k (0 : Fin 1))
      = ((∑ l ∈ range 128, t (128 * k.val + l) : ℕ) : EReal) := by
    rw [← alongRow_at H k ⟨127, by norm_num⟩]
    refine congrArg (alongRow h) ?_
    funext a; apply Fin.ext
    match a with
    | ⟨0, _⟩ => exact Nat.zero_add _
    | ⟨1, _⟩ => rfl
  rw [lower_at, e, ind_mul]

theorem broadcast_row (v : FVec Ideal S512x1 .f32) (r : Fin 512) (l : Fin 128) :
    broadcastTo S512x128 v broadcasts_S512x1_S512x128 (ValueIdx.ix2 r l) = v (ValueIdx.ix2 r (0 : Fin 1)) := by
  refine congrArg v ?_
  funext a; apply Fin.ext
  match a with
  | ⟨0, _⟩ => rfl
  | ⟨1, _⟩ => rfl

/-- The running total through a cell. -/
theorem pay3_at (H : Sums h t) (r : Fin 512) (l : Fin 128) : k1_pay3 h (ValueIdx.ix2 r l) = (upTo t (128 * r.val + l.val + 1) : EReal) := by
  rw [pay3_eq, ValueIdx.addf_apply, broadcast_row, alongRow_at H, rowsAbove_at H, ← Nat.cast_add, Nat.add_comm, Nat.add_assoc, upTo_add]

end Cert.Proof.SelectIdeal

end
-- ==== Proof.SelectCount.lean ====
/-
  What the selections leave, as numbers: the cell in which the running total reaches the target, and the target less the
  total below that cell.
-/
module

public import proofs.«01_k».proof.Proof.SelectIdeal

@[expose] public section

noncomputable section

namespace Cert.Proof.SelectIdeal

open Cert.KernelIdeal Cert.KernelIdeal.Gen Cert.Proof.Run Cert.Proof.Radix
open Idealize.ShloMosaic
open Finset

/-- A sum over the `512 × 128` cells under a leading unit axis is the sum over the bins. -/
theorem sum_cells {M : Type} [AddCommMonoid M] (f : S1x512x128.Idx → M) (g : ℕ → M)
    (hfg : ∀ (r : Fin 512) (l : Fin 128), f (ValueIdx.ix3 (0 : Fin 1) r l) = g (128 * r.val + l.val)) :
    ∑ i : S1x512x128.Idx, f i = ∑ b ∈ range 65536, g b := by
  have h0 : ∀ i : S1x512x128.Idx, i = ValueIdx.ix3 (0 : Fin 1) (i 1) (i 2) := by
    intro i
    funext a
    match a with
    | ⟨0, _⟩ => exact Subsingleton.elim (α := Fin 1) _ _
    | ⟨1, _⟩ => rfl
    | ⟨2, _⟩ => rfl
  have hr : ∀ i : S1x512x128.Idx, (i 1).val < 512 := fun i => (i 1).isLt
  have hl : ∀ i : S1x512x128.Idx, (i 2).val < 128 := fun i => (i 2).isLt
  refine sum_bij' (fun i _ => 128 * (i 1).val + (i 2).val)
    (fun b _ => ValueIdx.ix3 (0 : Fin 1) (Fin.ofNat 512 (b / 128)) (Fin.ofNat 128 (b % 128))) ?_ ?_ ?_ ?_ ?_
  · intro i _
    have := hr i
    have := hl i
    exact mem_range.2 (by omega)
  · intro b _; exact mem_univ _
  · intro i _
    have := hr i
    have := hl i
    rw [h0 i]
    funext a
    apply Fin.ext
    match a with
    | ⟨0, _⟩ => rfl
    | ⟨1, _⟩ => show (128 * (i 1).val + (i 2).val) / 128 % 512 = (i 1).val; omega
    | ⟨2, _⟩ => show (128 * (i 1).val + (i 2).val) % 128 % 128 = (i 2).val; omega
  · intro b hb
    have := mem_range.1 hb
    show 128 * (b / 128 % 512) + b % 128 % 128 = b
    omega
  · intro i _
    rw [h0 i]
    exact hfg _ _

/-- The number of cells whose running total is below `θ`. -/
def below (h : Vec Ideal S32x512x128 .i32) (θ : Ideal .f32) : IVec S1x1x1 32 :=
  shapeCast S1x1x1 (multiReductionI .add [1, 2] S1 (shapeCast S1x512x128 (extui 32 (cmpf .olt (k1_pay3 h) (broadcast S512x128 θ)) natLt_1_32)
    shapeCasts_S512x128_S1x512x128) 0#32 reduces_S1x512x128_S1 rfl) shapeCasts_S1_S1x1x1

/-- The bins, numbered. -/
def bins : IVec S512x128 32 := addi (muli (broadcast S512x128 128#32) (iota .tc S512x128 32 [0] iota_S512x128_d0_w32)) (iota .tc S512x128 32 [1] iota_S512x128_d1_w32)

/-- `θ` less the total below cell `j`. -/
def rest (h : Vec Ideal S32x512x128 .i32) (θ : Ideal .f32) (j : BitVec 32) : Ideal .f32 :=
  Scalar.subf θ (extractAt ![0, 0, 0] (shapeCast S1x1x1 (multiReduction .add [1, 2] S1 (shapeCast S1x512x128
    (select (cmpi .eq bins (broadcast S512x128 j)) (subf (k1_pay3 h) (k1_pay2 h)) (broadcast S512x128 (Scalar.ofBits .f32 0x00000000#32)))
    shapeCasts_S512x128_S1x512x128) 0x00000000#32 reduces_S1x512x128_S1 (.inl rfl) rfl) shapeCasts_S1_S1x1x1) inpos_S1x1x1_p0_0_0)

theorem k1_pay4_eq (h : Vec Ideal S32x512x128 .i32) : k1_pay4 h = below h (Scalar.ofBits .f32 0x4B666667#32) := rfl
theorem k1_pay5_eq (h : Vec Ideal S32x512x128 .i32) :
    k1_pay5 h = rest h (Scalar.ofBits .f32 0x4B666667#32) (extractAt ![0, 0, 0] (k1_pay4 h) inpos_S1x1x1_p0_0_0) := rfl
theorem k3_pay3_eq (h : Vec Ideal S32x512x128 .i32) : k3_pay3 h = k1_pay3 h := rfl
theorem k3_pay5_eq (h : Vec Ideal S32x512x128 .i32) (v : Vec Ideal S1x1 .i32) : k3_pay5 h v = below h (k3_pay4 v) := rfl
theorem k3_pay6_eq (h : Vec Ideal S32x512x128 .i32) (v : Vec Ideal S1x1 .i32) :
    k3_pay6 h v = rest h (k3_pay4 v) (extractAt ![0, 0, 0] (k3_pay5 h v) inpos_S1x1x1_p0_0_0) := rfl

variable {h : Vec Ideal S32x512x128 .i32} {t : ℕ → ℕ}

theorem below_at (H : Sums h t) (k : ℕ) (z : S1x1x1.Idx) : below h (k : EReal) z = BitVec.ofNat 32 (rank t 65536 k) := by
  have hs : ∑ i : S1x512x128.Idx, (shapeCast S1x512x128 (extui 32 (cmpf .olt (k1_pay3 h) (broadcast S512x128 (k : EReal))) natLt_1_32) shapeCasts_S512x128_S1x512x128 i).toNat
      = rank t 65536 k := by
    unfold rank
    rw [card_filter]
    refine sum_cells _ _ fun r l => ?_
    rw [ValueIdx.shapeCast_ab_1ab_apply, ValueIdx.extui_apply, ValueIdx.cmpf_apply, pay3_at H]
    show ((BitVec.ofBool (decide ((upTo t (128 * r.val + l.val + 1) : EReal) < (k : EReal)))).setWidth 32).toNat = _
    by_cases c : upTo t (128 * r.val + l.val + 1) < k
    · rw [if_pos c, decide_eq_true (EReal.natCast_lt_iff.2 c)]; rfl
    · rw [if_neg c, decide_eq_false (mt EReal.natCast_lt_iff.1 c)]; rfl
  have hle : rank t 65536 k ≤ 65536 := (card_filter_le _ _).trans (card_range _).le
  have hd : ∀ j, (univ.filter fun i => reduces_S1x512x128_S1.drop i = j) = univ := fun j =>
    filter_true_of_mem fun i _ => funext fun b => by
      fin_cases b
      exact Subsingleton.elim (α := Fin 1) _ _
  apply BitVec.eq_of_toNat_eq
  unfold below
  refine (WordSum.toNat_multiReductionI_add _ reduces_S1x512x128_S1 rfl _ ?_).trans ?_
  · rw [hd, hs]; omega
  · rw [hd, hs, BitVec.toNat_ofNat, Nat.mod_eq_of_lt (by omega)]

theorem bins_at (r : Fin 512) (l : Fin 128) : bins (ValueIdx.ix2 r l) = BitVec.ofNat 32 (128 * r.val + l.val) := by
  show 128#32 * BitVec.ofNat 32 (0 * 512 + r.val) + BitVec.ofNat 32 (0 * 128 + l.val) = _
  apply BitVec.eq_of_toNat_eq
  simp [BitVec.toNat_add, BitVec.toNat_mul]

theorem rest_at (H : Sums h t) (k j : ℕ) (hj : j < 65536) (hk : upTo t j ≤ k) :
    rest h (k : EReal) (BitVec.ofNat 32 j) = ((k - upTo t j : ℕ) : EReal) := by
  have hs : ∑ i : S1x512x128.Idx, (shapeCast S1x512x128 (select (cmpi .eq bins (broadcast S512x128 (BitVec.ofNat 32 j))) (subf (k1_pay3 h) (k1_pay2 h))
      (broadcast S512x128 (Scalar.ofBits .f32 0x00000000#32 : Ideal .f32))) shapeCasts_S512x128_S1x512x128 i) = (upTo t j : EReal) := by
    refine (sum_cells _ (fun b => if b = j then (upTo t j : EReal) else 0) fun r l => ?_).trans ?_
    · rw [ValueIdx.shapeCast_ab_1ab_apply, ValueIdx.select_apply, ValueIdx.subf_apply, pay3_at H, pay2_at H]
      show Scalar.select (BitVec.ofBool (decide (bins (ValueIdx.ix2 r l) = BitVec.ofNat 32 j))) _ (Ideal.ofBits .f32 0x00000000#32) = _
      rw [bins_at, Ideal.ofBits_zero_f32, upTo_succ, sub_nat _ _ (by omega), Nat.add_sub_cancel]
      by_cases c : 128 * r.val + l.val = j
      · rw [if_pos c, c, decide_eq_true rfl]; rfl
      · rw [if_neg c, decide_eq_false]
        · rfl
        · intro e
          have := congrArg BitVec.toNat e
          rw [BitVec.toNat_ofNat, BitVec.toNat_ofNat] at this
          omega
    · rw [sum_ite_eq', if_pos (mem_range.2 hj)]
  unfold rest
  refine Eq.trans (congrArg (fun v : EReal => (k : EReal) - v) ?_) (sub_nat _ _ hk)
  exact (Ideal.multiReduction_add_total _ _ reduces_S1x512x128_S1 (fun b => by fin_cases b; rfl) (.inl rfl) rfl _).trans hs

end Cert.Proof.SelectIdeal

end
-- ==== Proof.OrderKey.lean ====
/-
  The key of a word as a number, and that the word a key stands for has that key.
-/
module

public import proofs.«01_k».proof.Proof.Keys
public import proofs.«01_k».proof.Proof.Regions

@[expose] public section

namespace Cert.Proof.OrderKey

open Cert.Proof.Keys Cert.Proof.Run
open Idealize.ShloMosaic

theorem nat_xor_top {a : ℕ} (h : a < 2147483648) : a ^^^ 2147483648 = a + 2147483648 := by
  have h1 := Nat.xor_div_two_pow (a := a) (b := 2147483648) (n := 31)
  have h2 := Nat.xor_mod_two_pow (a := a) (b := 2147483648) (n := 31)
  norm_num at h1 h2
  rw [Nat.div_eq_of_lt h, Nat.zero_xor] at h1
  rw [Nat.mod_eq_of_lt h] at h2
  omega

theorem nat_and_low (a : ℕ) : a &&& 2147483647 = a % 2147483648 := Nat.and_two_pow_sub_one_eq_mod a 31

theorem key_toNat (x : BitVec 32) : (key x).toNat = if x.toNat < 2147483648 then x.toNat + 2147483648 else 4294967295 - x.toNat := by
  have hx := x.isLt
  unfold key
  split
  · next h =>
    have hm : x.msb = false := BitVec.msb_eq_false_iff_two_mul_lt.2 (by omega)
    have hs : x.sshiftRight 31 = 0#32 := by
      rw [BitVec.sshiftRight_eq_of_msb_false hm]
      apply BitVec.eq_of_toNat_eq
      rw [BitVec.toNat_ushiftRight, Nat.shiftRight_eq_div_pow]
      exact Nat.div_eq_of_lt h
    rw [hs, BitVec.zero_or, BitVec.toNat_xor]
    exact nat_xor_top h
  · next h =>
    have hm : x.msb = true := BitVec.msb_eq_true_iff_two_mul_ge.2 (by omega)
    have hs : x.sshiftRight 31 = BitVec.allOnes 32 := by
      rw [BitVec.sshiftRight_eq_of_msb_true hm]
      have : (~~~x) >>> 31 = 0#32 := by
        apply BitVec.eq_of_toNat_eq
        rw [BitVec.toNat_ushiftRight, Nat.shiftRight_eq_div_pow, BitVec.toNat_not]
        exact Nat.div_eq_of_lt (by omega)
      rw [this]; rfl
    rw [hs, show BitVec.allOnes 32 ||| 2147483648#32 = BitVec.allOnes 32 from by decide, BitVec.xor_allOnes, BitVec.toNat_not]

theorem slt_zero (x : BitVec 32) : Scalar.cmpi .slt x 0#32 = BitVec.ofBool (decide (2147483648 ≤ x.toNat)) := by
  have e : Scalar.cmpi .slt x 0#32 = BitVec.ofBool (x.slt 0#32) := rfl
  rw [e, BitVec.slt_zero_eq_msb, BitVec.msb_eq_decide]

theorem key_unkey (k : BitVec 32) : key (unkey k) = k := by
  have hk := k.isLt
  apply BitVec.eq_of_toNat_eq
  rw [key_toNat]
  unfold unkey
  rw [slt_zero]
  by_cases h : 2147483648 ≤ k.toNat
  · rw [decide_eq_true h]
    have e : (k &&& 2147483647#32).toNat = k.toNat - 2147483648 := by
      rw [BitVec.toNat_and]
      show k.toNat &&& 2147483647 = _
      rw [nat_and_low]; omega
    show (if (k &&& 2147483647#32).toNat < _ then (k &&& 2147483647#32).toNat + _ else _ - (k &&& 2147483647#32).toNat) = _
    rw [e, if_pos (by omega)]; omega
  · rw [decide_eq_false h]
    have e : (k ^^^ 4294967295#32).toNat = 4294967295 - k.toNat := by
      rw [show (4294967295#32 : BitVec 32) = BitVec.allOnes 32 from rfl, BitVec.xor_allOnes, BitVec.toNat_not]
    show (if (k ^^^ 4294967295#32).toNat < _ then (k ^^^ 4294967295#32).toNat + _ else _ - (k ^^^ 4294967295#32).toNat) = _
    rw [e, if_neg (by omega)]; omega

theorem unkey_key (x : BitVec 32) : unkey (key x) = x := by
  have hx := x.isLt
  have hk := key_toNat x
  have h := key_toNat (unkey (key x))
  rw [key_unkey] at h
  have hu := (unkey (key x)).isLt
  apply BitVec.eq_of_toNat_eq
  split at h <;> split at hk <;> omega

theorem key_high (b : BitVec 32) : (key b >>> 16).toNat = (key b).toNat / 65536 := by
  rw [BitVec.toNat_ushiftRight, Nat.shiftRight_eq_div_pow]

theorem key_low (b : BitVec 32) : (key b &&& 65535#32).toNat = (key b).toNat % 65536 := by
  rw [BitVec.toNat_and]
  exact Nat.and_two_pow_sub_one_eq_mod _ 16

theorem hit0_iff (b : BitVec 32) (n : ℕ) : hit0 b n = true ↔ (key b).toNat / 65536 = n := by
  rw [hit0, decide_eq_true_iff, key_high]

theorem hit2_iff (p b : BitVec 32) (n : ℕ) : hit2 p b n = true ↔ (key b).toNat / 65536 = p.toNat ∧ (key b).toNat % 65536 = n := by
  rw [hit2, Bool.and_eq_true, decide_eq_true_iff, decide_eq_true_iff, key_low, ← key_high]
  exact and_congr_left' ⟨fun h => congrArg BitVec.toNat h, fun h => BitVec.eq_of_toNat_eq h⟩

end Cert.Proof.OrderKey
-- ==== Proof.KeyValue.lean ====
/-
  The key the two passes find over the extended reals: fewer than 15099495 of the words have a smaller key, and 15099495
  or more have no larger one.
-/
module

public import proofs.«01_k».proof.Proof.SelectCount
public import proofs.«01_k».proof.Proof.OrderKey

@[expose] public section

noncomputable section

namespace Cert.Proof.KeyValue

open Cert.KernelIdeal Cert.KernelIdeal.Gen Cert.Proof.Run Cert.Proof.Radix Cert.Proof.SelectIdeal Cert.Proof.Totals Cert.Proof.Keys
  Cert.Proof.OrderKey Cert.Proof.Hist
open Idealize.ShloMosaic
open Finset

/-- The tables of a pass sum, cell by cell, to the number of the words that hit the cell. -/
theorem sums_of_hit (hit : BitVec 32 → ℕ → Bool) (w : S4096x4096.Idx → BitVec 32) :
    Sums (shapeCast S32x512x128 (tables hit w) shapeCasts_S2097152_S32x512x128) (fun n => (univ.filter fun p => hit (w p) n = true).card) where
  small t r l := by
    have := tally_le hit (fun e => w (elt (128 * t.val) e)) 524288 (128 * r.val + l.val)
    rw [Totals.table_at]
    omega
  sum r l := by
    rw [← sum_tally, ← Fin.sum_univ_eq_sum_range (fun t => tally hit (fun e => w (elt (128 * t) e)) 524288 (128 * r.val + l.val)) 32]
    exact sum_congr rfl fun t _ => Totals.table_at hit w t r l

/-- The cell of the state the second selection takes its prefix from lies in row 0. -/
theorem cell0_at (st : Vec Ideal S8x128 .i32) : ∃ z : S8x128.Idx, (z 0).val = 0 ∧ extractAt ![0, 0] (stCell0 (F := Ideal) st) inpos_S1x1_p0_0 = st z :=
  ⟨_, rfl, rfl⟩

/-- The cell it takes its target from lies in row 1. -/
theorem cell1_at (st : Vec Ideal S8x128 .i32) : ∃ z : S8x128.Idx, (z 0).val = 1 ∧ extractAt ![0, 0] (stCell1 (F := Ideal) st) inpos_S1x1_p0_0 = st z :=
  ⟨_, rfl, rfl⟩

section
variable (w : S4096x4096.Idx → BitVec 32)

/-- The keys of the words, as numbers. -/
def keys (p : S4096x4096.Idx) : ℕ := (key (w p)).toNat

theorem sums1 : Sums (tab1 w) (highs (keys w)) := by
  have e : highs (keys w) = fun n => (univ.filter fun p => hit0 (w p) n = true).card := by
    funext n
    exact congrArg card (filter_congr fun p _ => (hit0_iff (w p) n).symm)
  rw [e]
  exact sums_of_hit hit0 w

theorem sums2 (p : ℕ) (hp : (pre1 (F := Ideal) w).toNat = p) : Sums (tab2 (F := Ideal) w) (lows (keys w) p) := by
  have e : lows (keys w) p = fun n => (univ.filter fun q => hit2 (pre1 (F := Ideal) w) (w q) n = true).card := by
    funext n
    exact congrArg card (filter_congr fun q _ => by rw [hit2_iff, hp]; rfl)
  rw [e]
  exact sums_of_hit _ w

theorem card_idx : Fintype.card S4096x4096.Idx = 16777216 := by
  rw [Fintype.card_congr (ValueIdx.idxEquiv2 (n0 := 4096) (n1 := 4096)), Fintype.card_prod, Fintype.card_fin]

theorem pre1_eq : pre1 (F := Ideal) w = BitVec.ofNat 32 (rank (highs (keys w)) 65536 15099495) := by
  have e : extractAt ![0, 0, 0] (k1_pay4 (F := Ideal) (tab1 w)) inpos_S1x1x1_p0_0_0 = BitVec.ofNat 32 (rank (highs (keys w)) 65536 15099495) := by
    rw [k1_pay4_eq, target_eq]
    exact below_at (sums1 w) _ _
  show 0#32 * 1#32 + extractAt ![0, 0, 0] (k1_pay4 (F := Ideal) (tab1 w)) inpos_S1x1x1_p0_0_0 = _
  rw [e]
  exact BitVec.zero_add _

/-- Row 1 of the first selection's state: what is left of the target. -/
theorem st1_row1 (z : S8x128.Idx) (hz : (z 0).val = 1) :
    st1 (F := Ideal) w z = Ideal.fptosi 32 (k1_pay5 (F := Ideal) (tab1 w)) := by
  show Scalar.select (IntOp.cmpi .eq (BitVec.ofNat 32 (0 * 8 + (z 0).val)) 0#32) _
    (Scalar.select (IntOp.cmpi .eq (BitVec.ofNat 32 (0 * 8 + (z 0).val)) 1#32) (Ideal.fptosi 32 (k1_pay5 (F := Ideal) (tab1 w))) _) = _
  rw [hz]
  rfl

theorem key_counts : ((univ.filter fun p => keys w p < (keyAt (F := Ideal) w unitIdx).toNat).card < 15099495)
    ∧ 15099495 ≤ (univ.filter fun p => keys w p ≤ (keyAt (F := Ideal) w unitIdx).toNat).card := by
  obtain ⟨p, hp⟩ : ∃ p, p = rank (highs (keys w)) 65536 15099495 := ⟨_, rfl⟩
  obtain ⟨k', hk'⟩ : ∃ k', k' = 15099495 - upTo (highs (keys w)) p := ⟨_, rfl⟩
  obtain ⟨q, hq⟩ : ∃ q, q = rank (lows (keys w) p) 65536 k' := ⟨_, rfl⟩
  obtain ⟨a1, a2, a3, a4, a5⟩ := select (keys w) 15099495 (by norm_num) (by rw [card_idx]; norm_num)
    (fun i => (key (w i)).isLt) p k' q hp hk' hq
  have hpre : pre1 (F := Ideal) w = BitVec.ofNat 32 p := by rw [pre1_eq, hp]
  have hpn : (pre1 (F := Ideal) w).toNat = p := by rw [hpre, BitVec.toNat_ofNat]; omega
  have hrest : k1_pay5 (F := Ideal) (tab1 w) = (k' : EReal) := by
    have e : extractAt ![0, 0, 0] (k1_pay4 (F := Ideal) (tab1 w)) inpos_S1x1x1_p0_0_0 = BitVec.ofNat 32 p := by
      rw [k1_pay4_eq, target_eq, hp]
      exact below_at (sums1 w) _ _
    rw [k1_pay5_eq, e, target_eq, rest_at (sums1 w) _ _ a1 a2, hk']
  have hcell : k3_pay4 (stCell1 (F := Ideal) (st1 (F := Ideal) w)) = (k' : EReal) := by
    have e : extractAt ![0, 0] (stCell1 (F := Ideal) (st1 (F := Ideal) w)) inpos_S1x1_p0_0 = BitVec.ofNat 32 k' := by
      obtain ⟨z, hz, e⟩ := cell1_at (st1 (F := Ideal) w)
      rw [e, st1_row1 w z hz, hrest, fptosi_nat _ (by omega)]
    unfold k3_pay4
    show (FloatOps.sitofp .f32 (extractAt ![0, 0] (stCell1 (F := Ideal) (st1 (F := Ideal) w)) inpos_S1x1_p0_0) : Ideal .f32) = _
    have hv : (BitVec.ofNat 32 k').toNat = k' := by rw [BitVec.toNat_ofNat]; omega
    rw [e, sitofp_nat _ (by rw [hv]; omega), hv]
  have hlow : extractAt ![0, 0, 0] (k3_pay5 (F := Ideal) (tab2 (F := Ideal) w) (stCell1 (F := Ideal) (st1 (F := Ideal) w))) inpos_S1x1x1_p0_0_0
      = BitVec.ofNat 32 q := by
    rw [k3_pay5_eq, hcell, hq]
    exact below_at (sums2 w p hpn) _ _
  have hkey : keyAt (F := Ideal) w unitIdx = BitVec.ofNat 32 (p * 65536 + q) := by
    have hc0 : extractAt ![0, 0] (stCell0 (F := Ideal) (st1 (F := Ideal) w)) inpos_S1x1_p0_0 = BitVec.ofNat 32 p := by
      obtain ⟨z, hz, e⟩ := cell0_at (st1 (F := Ideal) w)
      rw [e, st1_row w z hz, hpre]
    show extractAt ![0, 0] (stCell0 (F := Ideal) (st1 (F := Ideal) w)) inpos_S1x1_p0_0 * 65536#32
      + extractAt ![0, 0, 0] (k3_pay5 (F := Ideal) (tab2 (F := Ideal) w) (stCell1 (F := Ideal) (st1 (F := Ideal) w))) inpos_S1x1x1_p0_0_0 = _
    rw [hc0, hlow]
    apply BitVec.eq_of_toNat_eq
    simp [BitVec.toNat_add, BitVec.toNat_mul]
  have hn : (keyAt (F := Ideal) w unitIdx).toNat = p * 65536 + q := by rw [hkey, BitVec.toNat_ofNat]; omega
  rw [hn]
  exact ⟨a4, a5⟩

end

end Cert.Proof.KeyValue

end
-- ==== Proof.FloatValue.lean ====
/-
  The extended real a 32-bit word of a float stands for, and that it grows with the word's key: the keys put the words
  that are no NaN's in the order of their values.
-/
module

public import proofs.«01_k».proof.Proof.OrderKey
public import Idealize.ShloMosaic.PureOps.Ideal

@[expose] public section

noncomputable section

namespace Cert.Proof.FloatValue

open Cert.Proof.Keys Cert.Proof.OrderKey
open Idealize.ShloMosaic

/-- The extended real a word stands for. -/
def value (x : BitVec 32) : EReal := Ideal.ofBits .f32 x

/-- The word's magnitude, its sign aside: it is no NaN's if it is at most an infinity's. -/
def size (x : BitVec 32) : ℕ := x.toNat % 2147483648

/-- A finite magnitude as a multiple of the smallest float above zero. -/
def units (n : ℕ) : ℕ := if n / 8388608 = 0 then n % 8388608 else (8388608 + n % 8388608) * 2 ^ (n / 8388608 - 1)

theorem units_mono : Monotone units := by
  refine monotone_nat_of_le_succ fun n => ?_
  obtain ⟨e, he⟩ : ∃ e, e = n / 8388608 := ⟨_, rfl⟩
  obtain ⟨f, hf⟩ : ∃ f, f = n % 8388608 := ⟨_, rfl⟩
  have hlt : f < 8388608 := by rw [hf]; exact Nat.mod_lt _ (by norm_num)
  unfold units
  rw [← he, ← hf]
  by_cases hc : f + 1 < 8388608
  · have h1 : (n + 1) / 8388608 = e := by omega
    have h2 : (n + 1) % 8388608 = f + 1 := by omega
    rw [h1, h2]
    split
    · omega
    · exact Nat.mul_le_mul_right _ (by omega)
  · have h1 : (n + 1) / 8388608 = e + 1 := by omega
    have h2 : (n + 1) % 8388608 = 0 := by omega
    rw [h1, h2, if_neg (by omega : ¬ e + 1 = 0), Nat.add_zero, Nat.add_sub_cancel]
    by_cases h0 : e = 0
    · rw [if_pos h0, h0, pow_zero]
      omega
    · rw [if_neg h0]
      obtain ⟨d, rfl⟩ : ∃ d, e = d + 1 := ⟨e - 1, by omega⟩
      rw [Nat.add_sub_cancel, pow_succ, mul_comm (2 ^ d) 2, ← mul_assoc]
      exact Nat.mul_le_mul_right _ (by omega)

/-- The value of a magnitude. -/
def magnitude (n : ℕ) : EReal := if n = 2139095040 then ⊤ else (((units n : ℝ) * (2 : ℝ) ^ (-149 : ℤ) : ℝ) : EReal)

theorem magnitude_nonneg (n : ℕ) : 0 ≤ magnitude n := by
  unfold magnitude
  split
  · exact le_top
  · exact EReal.coe_nonneg.2 (by positivity)

theorem magnitude_mono {a b : ℕ} (h : a ≤ b) (hb : b ≤ 2139095040) : magnitude a ≤ magnitude b := by
  unfold magnitude
  by_cases c : b = 2139095040
  · rw [if_pos c]
    exact le_top
  · rw [if_neg c, if_neg (by omega)]
    exact EReal.coe_le_coe_iff.2 (mul_le_mul_of_nonneg_right (Nat.cast_le.2 (units_mono h)) (by positivity))

/-- What a magnitude of exponent `ex` and fraction `fr` denotes, with a sign. -/
theorem denotes (neg : Bool) (n ex fr : ℕ) (hex : ex = n / 8388608) (hfr : fr = n % 8388608) (hn : n ≤ 2139095040) :
    (if ex = 2 ^ 8 - 1 then (if fr = 0 then (if neg then ⊥ else ⊤) else ⊥)
      else if ex = 0 then ((((if neg then -1 else 1 : ℝ)) * fr * (2 : ℝ) ^ (1 - (2 ^ (8 - 1) - 1) - (23 : ℕ) : ℤ) : ℝ) : EReal)
      else ((((if neg then -1 else 1 : ℝ)) * (2 ^ 23 + fr : ℕ) * (2 : ℝ) ^ ((ex : ℤ) - (2 ^ (8 - 1) - 1) - (23 : ℕ)) : ℝ) : EReal) : EReal)
      = if neg then -magnitude n else magnitude n := by
  by_cases h255 : ex = 255
  · have hn' : n = 2139095040 := by omega
    have h0 : fr = 0 := by omega
    rw [if_pos (by omega), if_pos h0, hn', magnitude, if_pos rfl, EReal.neg_top]
  · have hn' : n ≠ 2139095040 := by omega
    rw [if_neg (by omega), magnitude, if_neg hn']
    have key : ∀ r s : ℝ, r = s → (if neg then -(s : EReal) else (s : EReal)) = (((if neg then -1 else 1 : ℝ) * r : ℝ) : EReal) := by
      rintro r s rfl
      cases neg <;> simp
    by_cases h0 : ex = 0
    · rw [if_pos h0, mul_assoc]
      refine (key _ _ ?_).symm
      rw [units, ← hex, if_pos h0, ← hfr]
      norm_num
    · rw [if_neg h0, mul_assoc]
      refine (key _ _ ?_).symm
      rw [units, ← hex, if_neg h0, ← hfr]
      obtain ⟨d, rfl⟩ : ∃ d, ex = d + 1 := ⟨ex - 1, by omega⟩
      have e : (((d + 1 : ℕ) : ℤ) - (2 ^ (8 - 1) - 1) - (23 : ℕ)) = (d : ℤ) + (-149) := by push_cast; ring
      rw [e, zpow_add₀ (by norm_num), zpow_natCast, Nat.add_sub_cancel]
      push_cast
      ring

theorem value_eq (x : BitVec 32) (h : size x ≤ 2139095040) :
    value x = if 2147483648 ≤ x.toNat then -magnitude (size x) else magnitude (size x) := by
  have hx := x.isLt
  have e1 : (x.extractLsb' (8 + 23) 1 == 1#1) = decide (2147483648 ≤ x.toNat) := by
    have ht : (x.extractLsb' (8 + 23) 1).toNat = x.toNat / 2147483648 % 2 := by
      rw [BitVec.extractLsb'_toNat, Nat.shiftRight_eq_div_pow]
    by_cases c : 2147483648 ≤ x.toNat
    · rw [decide_eq_true c, beq_iff_eq]
      apply BitVec.eq_of_toNat_eq
      rw [ht]
      show _ = 1
      omega
    · rw [decide_eq_false c, beq_eq_false_iff_ne]
      intro hc
      have := congrArg BitVec.toNat hc
      rw [ht] at this
      have h1 : (1#1 : BitVec 1).toNat = 1 := rfl
      omega
  have e2 : (x.extractLsb' 23 8).toNat = size x / 8388608 := by
    rw [BitVec.extractLsb'_toNat, Nat.shiftRight_eq_div_pow, size]
    show x.toNat / 8388608 % 256 = _
    omega
  have e3 : (x.extractLsb' 0 23).toNat = size x % 8388608 := by
    rw [BitVec.extractLsb'_toNat, Nat.shiftRight_zero, size]
    show x.toNat % 8388608 = _
    omega
  have := denotes (decide (2147483648 ≤ x.toNat)) (size x) _ _ rfl rfl h
  unfold value Ideal.ofBits Ideal.ieee
  simp only [e1, e2, e3]
  simpa using this

/-- The value grows with the key. -/
theorem value_mono {a b : BitVec 32} (ha : size a ≤ 2139095040) (hb : size b ≤ 2139095040) (h : (key a).toNat ≤ (key b).toNat) :
    value a ≤ value b := by
  have hla := a.isLt
  have hlb := b.isLt
  rw [key_toNat, key_toNat] at h
  rw [value_eq a ha, value_eq b hb]
  by_cases ca : 2147483648 ≤ a.toNat
  · rw [if_pos ca]
    by_cases cb : 2147483648 ≤ b.toNat
    · rw [if_pos cb, EReal.neg_le_neg_iff]
      rw [if_neg (by omega), if_neg (by omega)] at h
      exact magnitude_mono (by unfold size; omega) ha
    · rw [if_neg cb]
      exact (EReal.neg_le_neg_iff.2 (magnitude_nonneg _)).trans (by rw [neg_zero]; exact magnitude_nonneg _)
  · rw [if_neg ca]
    rw [if_pos (by omega)] at h
    by_cases cb : 2147483648 ≤ b.toNat
    · rw [if_neg (by omega)] at h
      omega
    · rw [if_neg cb]
      rw [if_pos (by omega)] at h
      exact magnitude_mono (by unfold size; omega) hb

end Cert.Proof.FloatValue

end
-- ==== Proof.SortRank.lean ====
/-
  The element a sort leaves at a position, from two counts: the element that fewer than `m + 1` of the entries are below
  and more than `m` are not above is at position `m`. Nothing here speaks of the program.
-/
module

public import Idealize.ShloMosaic.Lib.SortFacts
public import Idealize.ShloMosaic.Lib.ValueIdxCore

@[expose] public section

namespace Cert.Proof.SortRank

open Idealize.ShloMosaic Idealize.ShloMosaic.ValueIdx
open Finset

/-- A rearrangement in which no later entry is smaller: the entry at `m` is the one the counts name. -/
theorem nth_of_counts {α : Type} [LinearOrder α] {n : ℕ} (y s : Fin n → α) (e : Fin n → Fin n) (he : Function.Bijective e) (hs : ∀ j, s j = y (e j))
    (mono : ∀ i j, i < j → ¬ s j < s i) (m : Fin n) (θ : α) (h1 : (univ.filter fun i => y i < θ).card ≤ m.val)
    (h2 : m.val < (univ.filter fun i => y i ≤ θ).card) : s m = θ := by
  have count : ∀ P : α → Prop, ∀ _ : DecidablePred P, (univ.filter fun i => P (s i)).card = (univ.filter fun i => P (y i)).card := by
    intro P _
    refine card_bij (fun i _ => e i) ?_ ?_ ?_
    · intro i hi; simpa [hs] using hi
    · intro i _ j _ h; exact he.1 h
    · intro j hj
      obtain ⟨i, rfl⟩ := he.2 j
      exact ⟨i, by simpa [hs] using hj, rfl⟩
  rw [← count (fun v => v < θ) inferInstance] at h1
  rw [← count (fun v => v ≤ θ) inferInstance] at h2
  have le : ∀ i j, i ≤ j → s i ≤ s j := by
    intro i j hij
    rcases hij.lt_or_eq with h | h
    · exact not_lt.1 (mono i j h)
    · rw [h]
  rcases lt_trichotomy (s m) θ with h | h | h
  · exfalso
    have : (Finset.Iic m).card ≤ (univ.filter fun i => s i < θ).card :=
      card_le_card fun i hi => mem_filter.2 ⟨mem_univ _, (le i m (mem_Iic.1 hi)).trans_lt h⟩
    rw [Fin.card_Iic] at this
    omega
  · exact h
  · exfalso
    have : (univ.filter fun i => s i ≤ θ).card ≤ (Finset.Iio m).card :=
      card_le_card fun i hi => mem_Iio.2 (by
        by_contra hc
        exact absurd ((le m i (not_lt.1 hc)).trans (mem_filter.1 hi).2) (not_le.2 h))
    rw [Fin.card_Iio] at this
    omega

/-- So for the host's sort of a vector. -/
theorem sort_at {α : Type} [LinearOrder α] {n : ℕ} (cmp : α → α → BitVec 1) (hcmp : ∀ a b, cmp a b = BitVec.ofBool (decide (a < b)))
    (y : (⟨1, ![n]⟩ : Shape).Idx → α) (m : Fin n) (θ : α)
    (h1 : (univ.filter fun i : Fin n => (y (ix1 i)) < θ).card ≤ m.val)
    (h2 : m.val < (univ.filter fun i : Fin n => (y (ix1 i)) ≤ θ).card) :
    Host.sort ⟨1, ![n]⟩ 0 cmp y (ix1 m) = θ := by
  have hb : ∀ k k' : Fin n, (cmp (y (ix1 k)) (y (ix1 k')) == 1#1) = decide ((y (ix1 k)) < (y (ix1 k'))) := by
    intro k k'
    rw [hcmp]
    by_cases h : (y (ix1 k)) < (y (ix1 k')) <;> simp [h]
  let B : Fin n → Fin n → Bool := fun k k' => decide ((y (ix1 k)) < (y (ix1 k')))
  have hsort : ∀ j : Fin n, Host.sort ⟨1, ![n]⟩ 0 cmp y (ix1 j) = y (ix1 (sortedFrom B j)) := by
    intro j
    have hal : ∀ k : Fin n, (ix1 j : (⟨1, ![n]⟩ : Shape).Idx).along (0 : Fin 1) k = ix1 k := by
      intro k
      funext a
      obtain rfl : a = 0 := Subsingleton.elim _ _
      exact Function.update_self _ _ _
    unfold Host.sort
    rw [dif_pos (show 0 < (⟨1, ![n]⟩ : Shape).rank from Nat.one_pos)]
    show y ((ix1 j : (⟨1, ![n]⟩ : Shape).Idx).along (0 : Fin 1) (sortedFrom (n := n) (fun k k' => cmp (y ((ix1 j : (⟨1, ![n]⟩ : Shape).Idx).along (0 : Fin 1) k)) (y ((ix1 j : (⟨1, ![n]⟩ : Shape).Idx).along (0 : Fin 1) k')) == 1#1) j)) = _
    simp only [hal, hb]
    rfl
  rw [hsort]
  refine nth_of_counts (fun i => (y (ix1 i))) (fun i => (y (ix1 (sortedFrom B i)))) (sortedFrom B)
    ⟨sortedFrom_injective B, sortedFrom_surjective B⟩ (fun _ => rfl) ?_ m θ h1 h2
  intro i j hij hlt
  have := sortedFrom_noInversion B B (fun a b h => ?_) (fun _ _ h => h) (fun a b c h h' => ?_) i j hij
  · exact of_decide_eq_false this hlt
  · simp only [B, decide_eq_true_eq, decide_eq_false_iff_not, not_lt] at h ⊢; exact h.le
  · simp only [B, decide_eq_true_eq, decide_eq_false_iff_not, not_lt] at h h' ⊢; exact h'.trans h

end Cert.Proof.SortRank
-- ==== Proof.Value.lean ====
/-
  The kernel and the reference over the extended reals leave the same array where no score is a NaN: the value at the
  reference's sorted position is the value of the word the kernel's key stands for, and a weight times a 0 or 1 mask is
  the weight or 0.
-/
module

public import proofs.«01_k».proof.Defs
public import proofs.«01_k».proof.Proof.Main
public import proofs.«01_k».proof.Proof.KeyValue
public import proofs.«01_k».proof.Proof.FloatValue
public import proofs.«01_k».proof.Proof.SortRank
public import proofs.«01_k».proof.Proof.Gen.ReferenceIdeal
public import proofs.«01_k».proof.Proof.Gen.ReferenceIdeal.Run

@[expose] public section

noncomputable section

namespace Cert.Proof.Value

open Cert.ReferenceIdeal Cert.ReferenceIdeal.Gen Cert.Proof.KeyValue Cert.Proof.OrderKey Cert.Proof.Keys Cert.Proof.FloatValue
open Idealize.ShloMosaic Idealize.SL.Sem
open Finset

abbrev Words : Type := S4096x4096.Idx → BitVec 32

/-- The scores the words stand for. -/
def scores (x : Words) : FVec Ideal S4096x4096 .f32 := bitcastToFloat (F := Ideal) .f32 x

theorem scores_at (x : Words) (p : S4096x4096.Idx) : scores x p = value (x p) := rfl

/-- The scores in one row. -/
def flat (x : Words) : FVec Ideal S16777216 .f32 := shapeCast S16777216 (scores x) shapeCasts_S4096x4096_S16777216

/-- The score the reference compares with. -/
def threshold (x : Words) : FVec Ideal S_ .f32 :=
  shapeCast S_ (extractStridedSlice S1 ![15099494] (Host.sort S16777216 0 (comparator_f32_d0 (F := Ideal)) (flat x)) slices_S16777216_S1_15099494) shapeCasts_S1_S_

/-- What the reference computes. -/
def result (w : FVec Ideal S4096x4096 .f32) (x : Words) : FVec Ideal S4096x4096 .f32 :=
  mulf w (select (cmpf .olt (scores x) (broadcastInDim S4096x4096 ![] bcast_S_S4096x4096 (threshold x)))
    (broadcastInDim S4096x4096 ![] bcast_S_S4096x4096 (constant S_ .f32 0x00000000#32))
    (broadcastInDim S4096x4096 ![] bcast_S_S4096x4096 (constant S_ .f32 0x3F800000#32)))

/-- The reference's sort compares two scores in the order of the extended reals. -/
theorem compare_lt (a b : EReal) : comparator_f32_d0 (F := Ideal) a b = BitVec.ofBool (decide (a < b)) := by
  have zero : ∀ v : EReal, Scalar.select (Ideal.cmp .oeq v (Ideal.ofBits .f32 0x00000000#32)) (Ideal.ofBits .f32 0x00000000#32) v = v := by
    intro v
    by_cases h : v = Ideal.ofBits .f32 0x00000000#32
    · have e : Ideal.cmp .oeq v (Ideal.ofBits .f32 0x00000000#32) = 1#1 := congrArg BitVec.ofBool (decide_eq_true h)
      rw [e]
      exact h.symm
    · have e : Ideal.cmp .oeq v (Ideal.ofBits .f32 0x00000000#32) = 0#1 := congrArg BitVec.ofBool (decide_eq_false h)
      rw [e]
      rfl
  have self : ∀ v u y : EReal, Scalar.select (Ideal.cmp .une v v) u y = y := by
    intro v u y
    have e : Ideal.cmp .une v v = 0#1 := congrArg BitVec.ofBool (decide_eq_false (not_not.2 rfl))
    rw [e]
    rfl
  show Ideal.cmpTotal .lt
    (Scalar.select (Ideal.cmp .une a a) (Ideal.ofBits .f32 0x7FC00000#32) (Scalar.select (Ideal.cmp .oeq a (Ideal.ofBits .f32 0x00000000#32)) (Ideal.ofBits .f32 0x00000000#32) a))
    (Scalar.select (Ideal.cmp .une b b) (Ideal.ofBits .f32 0x7FC00000#32) (Scalar.select (Ideal.cmp .oeq b (Ideal.ofBits .f32 0x00000000#32)) (Ideal.ofBits .f32 0x00000000#32) b)) = _
  rw [self, self, zero, zero]
  rfl

/-- A count over the row of scores is the count over the array. -/
theorem card_flat (x : Words) (P : EReal → Prop) [DecidablePred P] :
    (univ.filter fun i : Fin 16777216 => P (flat x (ValueIdx.ix1 i))).card = (univ.filter fun p => P (value (x p))).card := by
  refine card_bij (fun i _ => Shape.reshapeEquiv shapeCasts_S4096x4096_S16777216 (ValueIdx.ix1 i)) ?_ ?_ ?_
  · intro i hi
    exact mem_filter.2 ⟨mem_univ _, (mem_filter.1 hi).2⟩
  · intro i _ j _ h
    exact congrFun ((Shape.reshapeEquiv shapeCasts_S4096x4096_S16777216).injective h) 0
  · intro p hp
    obtain ⟨j, rfl⟩ := (Shape.reshapeEquiv shapeCasts_S4096x4096_S16777216).surjective p
    obtain ⟨i, rfl⟩ : ∃ i : Fin 16777216, j = ValueIdx.ix1 i := ⟨j 0, ValueIdx.eq_ix1 (n := 16777216) j⟩
    exact ⟨i, mem_filter.2 ⟨mem_univ _, (mem_filter.1 hp).2⟩, rfl⟩

/-- The key the counts name is some word's. -/
theorem key_attained (x : Words) {κ k : ℕ} (c1 : (univ.filter fun p => keys x p < κ).card < k) (c2 : k ≤ (univ.filter fun p => keys x p ≤ κ).card) :
    ∃ p, keys x p = κ := by
  by_contra h
  have e : (univ.filter fun p => keys x p ≤ κ) = univ.filter fun p => keys x p < κ :=
    filter_congr fun p _ => ⟨fun hp => lt_of_le_of_ne hp fun hc => h ⟨p, hc⟩, le_of_lt⟩
  rw [e] at c2
  omega

/-- The score the reference compares with is the one the kernel's key stands for. -/
theorem threshold_eq (x : Words) (hx : ∀ p, size (x p) ≤ 2139095040) (z : S_.Idx) :
    threshold x z = value (Run.unkey (Run.keyAt (F := Ideal) x Run.unitIdx)) := by
  obtain ⟨c1, c2⟩ := key_counts x
  generalize Run.keyAt (F := Ideal) x Run.unitIdx = κ at c1 c2 ⊢
  obtain ⟨q, hq⟩ := key_attained x c1 c2
  have hκ : key (x q) = κ := BitVec.eq_of_toNat_eq hq
  rw [← hκ, unkey_key]
  rw [← hq] at c1 c2
  have hi : ∀ y : S1.Idx, extractStridedSlice S1 ![15099494] (Host.sort S16777216 0 (comparator_f32_d0 (F := Ideal)) (flat x)) slices_S16777216_S1_15099494 y
      = Host.sort S16777216 0 (comparator_f32_d0 (F := Ideal)) (flat x) (ValueIdx.ix1 (⟨15099494, by norm_num⟩ : Fin 16777216)) := by
    intro y
    refine congrArg (Host.sort S16777216 0 (comparator_f32_d0 (F := Ideal)) (flat x)) ?_
    funext a
    apply Fin.ext
    match a with
    | ⟨0, _⟩ =>
      have h1 : (y 0).val < 1 := (y 0).isLt
      show 15099494 + (y 0).val = 15099494
      omega
  refine (hi _).trans ?_
  refine SortRank.sort_at (α := EReal) (n := 16777216) (comparator_f32_d0 (F := Ideal)) compare_lt _ _ _ ?_ ?_
  · rw [card_flat x (fun v => v < value (x q))]
    refine Nat.le_of_lt_succ (lt_of_le_of_lt (card_le_card fun p hp => ?_) c1)
    refine mem_filter.2 ⟨mem_univ _, ?_⟩
    by_contra hc
    exact absurd (value_mono (hx q) (hx p) (not_lt.1 hc)) (not_le.2 (mem_filter.1 hp).2)
  · rw [card_flat x (fun v => v ≤ value (x q))]
    refine Nat.lt_of_succ_le (le_trans c2 (card_le_card fun p hp => ?_))
    exact mem_filter.2 ⟨mem_univ _, value_mono (hx p) (hx q) (mem_filter.1 hp).2⟩

theorem one_eq : Ideal.ofBits .f32 0x3F800000#32 = 1 := by
  have e1 : ((0x3F800000#32 : BitVec 32).extractLsb' (8 + 23) 1 == 1#1) = false := by decide
  have e2 : ((0x3F800000#32 : BitVec 32).extractLsb' 23 8).toNat = 127 := by decide
  have e3 : ((0x3F800000#32 : BitVec 32).extractLsb' 0 23).toNat = 0 := by decide
  simp only [Ideal.ofBits, Ideal.ieee, e1, e2, e3]
  norm_num

/-- The kernel's masked weights are the reference's. -/
theorem masked_eq (w : FVec Ideal S4096x4096 .f32) (x : Words) (hx : ∀ p, size (x p) ≤ 2139095040) :
    Run.masked (F := Ideal) (Run.keyAt (F := Ideal) x) w x = result w x := by
  funext p
  show Scalar.select (Ideal.cmp .olt (value (x p)) (value (0#32 + Run.unkey (Run.keyAt (F := Ideal) x Run.unitIdx)))) (Ideal.ofBits .f32 0x00000000#32) (w p)
    = w p * Scalar.select (Ideal.cmp .olt (scores x p) (threshold x _)) (Ideal.ofBits .f32 0x00000000#32) (Ideal.ofBits .f32 0x3F800000#32)
  rw [threshold_eq x hx, scores_at, BitVec.zero_add, Ideal.ofBits_zero_f32, one_eq]
  by_cases c : Ideal.cmp .olt (value (x p)) (value (Run.unkey (Run.keyAt (F := Ideal) x Run.unitIdx))) = 1#1
  · exact (if_pos c).trans ((mul_zero (w p)).symm.trans (congrArg (w p * ·) (if_pos c).symm))
  · exact (if_neg c).trans ((mul_one (w p)).symm.trans (congrArg (w p * ·) (if_neg c).symm))

/-- The facts the precondition's text takes. -/
theorem no_nan_facts : Cert.Pre_no_nan.Facts := ⟨bcast_S_S4096x4096⟩

/-- What the precondition says of a word. -/
theorem size_le (b : BitVec 32) (h : IntOp.cmpi .sle (b &&& 2147483647#32) 2139095040#32 = 1#1) : size b ≤ 2139095040 := by
  have e : (b &&& 2147483647#32).toNat = size b := by
    rw [BitVec.toNat_and]
    exact nat_and_low _
  have hs : size b < 2147483648 := Nat.mod_lt _ (by norm_num)
  have hle : (b &&& 2147483647#32).sle 2139095040#32 = true := by
    by_contra hc
    have h0 : IntOp.cmpi .sle (b &&& 2147483647#32) 2139095040#32 = 0#1 := congrArg BitVec.ofBool (Bool.eq_false_iff.2 hc)
    rw [h0] at h
    exact absurd h (by decide)
  rw [BitVec.sle_iff_toInt_le, BitVec.toInt_eq_toNat_cond, e, if_pos (by omega)] at hle
  have h2 : (2139095040#32 : BitVec 32).toInt = 2139095040 := by decide
  rw [h2] at hle
  exact_mod_cast hle

theorem algebraic : Cert.algebraic_KernelIdeal_ReferenceIdeal_pre_no_nan (hPre_no_nan := no_nan_facts) := by
  intro m g m' g' hp hm
  refine ⟨fun c => Run.outAt (F := Ideal) m c, ?_, ?_⟩
  · exact (θ_run _ _ _).mono (fun r h c => ⟨(h.1 c).2.2, (h.1 c).1, (h.1 c).2.1⟩) (Run.run_main (F := Ideal) m g)
  · refine (θ_run _ _ _).mono (fun r h c => ?_) (Cert.ReferenceIdeal.Value.run (F := Ideal) m' g')
    obtain ⟨h1, h2, h3⟩ := h c
    refine ⟨h1.trans ?_, h2, h3⟩
    exact (congrArg₂ result (hm c).1 (hm c).2).trans (masked_eq _ _ fun p => size_le _ (congrFun (hp c) p)).symm

end Cert.Proof.Value

end
-- ==== Proof.lean ====
/-
  The claims of the statement, each from the run of its program.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Value.no_nan_facts,
  frame_kernel, frame_ideal, fun m ρ _ => frame_ideal m ρ trivial, frame_reference, fun m ρ _ => frame_reference m ρ trivial, trivial,
  Value.algebraic⟩

end Cert.Proof

end
